-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 128, 32, 64]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 128, 32, 64]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x2048 : Shape := ⟨2, ![512, 2048]⟩
abbrev S2x128x4x64 : Shape := ⟨4, ![2, 128, 4, 64]⟩
abbrev S2048x512 : Shape := ⟨2, ![2048, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2x128x4x64 : S_.BroadcastsInDim S2x128x4x64 (![] : Fin 0 → Fin S2x128x4x64.rank)
  reducesTo_S2x128x4x64_S_d0_1_2_3 : S2x128x4x64.ReducesTo [0, 1, 2, 3] S_

variable [Facts]

def fn {F : FTy → Type} [FloatOps F] (main_arg0 : FVec F S2x128x512 .f32) (main_arg1 : FVec F S512x2048 .f32) (main_arg2 : FVec F S2x128x4x64 .f32) (main_arg3 : FVec F S2x128x4x64 .f32) (main_arg4 : FVec F S2048x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2x128x4x64 .f32 := Host.absf main_arg2
  let main_cst_2 : FVec F S_ .f32 := constant S_ .f32 0x7F800000#32
  let main_v10 : FVec F S2x128x4x64 .f32 := broadcastInDim S2x128x4x64 ![] bcast_S_S2x128x4x64 main_cst_2
  let main_v11 : IVec S2x128x4x64 1 := cmpf .olt main_v9 main_v10
  let main_c_3 : IVec S_ 1 := constantI S_ 1 1#1
  let main_v12 : IVec S_ 1 := (fun x v => Host.reduce IntOp.andi x v reducesTo_S2x128x4x64_S_d0_1_2_3 h_S_) main_v11 main_c_3
  let main_v13 : IVec S_ 1 := andi main_v8 main_v12
  main_v13
-- ==== Pre_finite_scores_ReferenceIdeal.lean ====
abbrev S2x128x512 : Shape := ⟨3, ![2, 128, 512]⟩
abbrev S512x2048 : Shape := ⟨2, ![512, 2048]⟩
abbrev S2x128x32x64 : Shape := ⟨4, ![2, 128, 32, 64]⟩
abbrev S2048x512 : Shape := ⟨2, ![2048, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2x128x32x64 : S_.BroadcastsInDim S2x128x32x64 (![] : Fin 0 → Fin S2x128x32x64.rank)
  reducesTo_S2x128x32x64_S_d0_1_2_3 : S2x128x32x64.ReducesTo [0, 1, 2, 3] S_

variable [Facts]

def fn {F : FTy → Type} [FloatOps F] (main_arg0 : FVec F S2x128x512 .f32) (main_arg1 : FVec F S512x2048 .f32) (main_arg2 : FVec F S2x128x32x64 .f32) (main_arg3 : FVec F S2x128x32x64 .f32) (main_arg4 : FVec F S2048x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2x128x32x64 .f32 := Host.absf main_arg2
  let main_cst_2 : FVec F S_ .f32 := constant S_ .f32 0x7F800000#32
  let main_v10 : FVec F S2x128x32x64 .f32 := broadcastInDim S2x128x32x64 ![] bcast_S_S2x128x32x64 main_cst_2
  let main_v11 : IVec S2x128x32x64 1 := cmpf .olt main_v9 main_v10
  let main_c_3 : IVec S_ 1 := constantI S_ 1 1#1
  let main_v12 : IVec S_ 1 := (fun x v => Host.reduce IntOp.andi x v reducesTo_S2x128x32x64_S_d0_1_2_3 h_S_) main_v11 main_c_3
  let main_v13 : IVec S_ 1 := andi main_v8 main_v12
  main_v13
-- ==== Kernel.lean ====
abbrev S2x128x512 : Shape := ⟨3, ![2, 128, 512]⟩
abbrev S512x2048 : Shape := ⟨2, ![512, 2048]⟩
abbrev S2x128x4x64 : Shape := ⟨4, ![2, 128, 4, 64]⟩
abbrev S2048x512 : Shape := ⟨2, ![2048, 512]⟩
abbrev S512x256 : Shape := ⟨2, ![512, 256]⟩
abbrev S256x256 : Shape := ⟨2, ![256, 256]⟩
abbrev S8x32x256 : Shape := ⟨3, ![8, 32, 256]⟩
abbrev S32x512 : Shape := ⟨2, ![32, 512]⟩
abbrev S256x512 : Shape := ⟨2, ![256, 512]⟩
abbrev S3 : Shape := ⟨1, ![3]⟩
abbrev S7 : Shape := ⟨1, ![7]⟩
abbrev S8 : Shape := ⟨1, ![8]⟩
abbrev S1 : Shape := ⟨1, ![1]⟩
abbrev S_ : Shape := ⟨0, ![]⟩
abbrev S256x64 : Shape := ⟨2, ![256, 64]⟩
abbrev S2x128x1x64 : Shape := ⟨4, ![2, 128, 1, 64]⟩
abbrev S2x128x64 : Shape := ⟨3, ![2, 128, 64]⟩
abbrev S256 : Shape := ⟨1, ![256]⟩
abbrev S256x1 : Shape := ⟨2, ![256, 1]⟩
abbrev S32x256 : Shape := ⟨2, ![32, 256]⟩
abbrev S1x32x256 : Shape := ⟨3, ![1, 32, 256]⟩
abbrev S32x2048 : Shape := ⟨2, ![32, 2048]⟩

abbrev nBuf : Space → Nat
  | .hbm => 6
  | .vmem => 11
  | .smem => 0
  | _ => 0

abbrev bufTy : (tb : Table) → Fin (tcTables nBuf tb) → BufTy
  | .hbm, ⟨0, _⟩ => ⟨S2x128x512, .f32⟩
  | .hbm, ⟨1, _⟩ => ⟨S512x2048, .f32⟩
  | .hbm, ⟨2, _⟩ => ⟨S2x128x4x64, .f32⟩
  | .hbm, ⟨3, _⟩ => ⟨S2x128x4x64, .f32⟩
  | .hbm, ⟨4, _⟩ => ⟨S2048x512, .f32⟩
  | .hbm, ⟨5, _⟩ => ⟨S2x128x512, .f32⟩
  | .local _ .vmem, ⟨0, _⟩ => ⟨S2x128x4x64, .f32⟩
  | .local _ .vmem, ⟨1, _⟩ => ⟨S2x128x4x64, .f32⟩
  | .local _ .vmem, ⟨2, _⟩ => ⟨S512x256, .f32⟩
  | .local _ .vmem, ⟨3, _⟩ => ⟨S2048x512, .f32⟩
  | .local _ .vmem, ⟨4, _⟩ => ⟨S2048x512, .bf16⟩
  | .local _ .vmem, ⟨5, _⟩ => ⟨S2x128x512, .f32⟩
  | .local _ .vmem, ⟨6, _⟩ => ⟨S2x128x512, .f32⟩
  | .local _ .vmem, ⟨7, _⟩ => ⟨S256x256, .bf16⟩
  | .local _ .vmem, ⟨8, _⟩ => ⟨S8x32x256, .bf16⟩
  | .local _ .vmem, ⟨9, _⟩ => ⟨S32x512, .bf16⟩
  | .local _ .vmem, ⟨10, _⟩ => ⟨S256x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c0_i32_0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v5 : BitVec 32 := Scalar.muli v2 c256_i32
  ![0, v5.toNat]
def k0_dev1 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v12 : BitVec 32 := Scalar.addi v2 c6_i32
  let c8_i32_2 : BitVec 32 := 8#32
  let v13 : BitVec 32 := Scalar.remsi v12 c8_i32_2
  let c1_i32_4 : BitVec 32 := 1#32
  let v14 : BitVec 32 := Scalar.muli v13 c1_i32_4
  let v15 : BitVec 32 := Scalar.addi c0_i32_5 v14
  v15.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_6 : BitVec 32 := 2#32
  let v16 : BitVec 32 := Scalar.addi v2 c2_i32_6
  let c8_i32_7 : BitVec 32 := 8#32
  let v17 : BitVec 32 := Scalar.remsi v16 c8_i32_7
  let c1_i32_9 : BitVec 32 := 1#32
  let v18 : BitVec 32 := Scalar.muli v17 c1_i32_9
  let v19 : BitVec 32 := Scalar.addi c0_i32_10 v18
  v19.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_11 : BitVec 32 := 8#32
  let v21 : BitVec 32 := Scalar.remsi v20 c8_i32_11
  let c1_i32_13 : BitVec 32 := 1#32
  let v22 : BitVec 32 := Scalar.muli v21 c1_i32_13
  let v23 : BitVec 32 := Scalar.addi c0_i32_14 v22
  v23.toNat
def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v24 : BitVec 32 := Scalar.addi v2 c7_i32
  let c8_i32_15 : BitVec 32 := 8#32
  let v25 : BitVec 32 := Scalar.remsi v24 c8_i32_15
  let c1_i32_17 : BitVec 32 := 1#32
  let v26 : BitVec 32 := Scalar.muli v25 c1_i32_17
  let v27 : BitVec 32 := Scalar.addi c0_i32_18 v26
  v27.toNat
def k0_dev5 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_19 : BitVec 32 := 1#32
  let v28 : BitVec 32 := Scalar.addi v2 c1_i32_19
  let c8_i32_20 : BitVec 32 := 8#32
  let v29 : BitVec 32 := Scalar.remsi v28 c8_i32_20
  let c1_i32_22 : BitVec 32 := 1#32
  let v30 : BitVec 32 := Scalar.muli v29 c1_i32_22
  let v31 : BitVec 32 := Scalar.addi c0_i32_23 v30
  v31.toNat
def k0_dev6 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v32 : BitVec 32 := Scalar.addi v2 c3_i32
  let c8_i32_24 : BitVec 32 := 8#32
  let v33 : BitVec 32 := Scalar.remsi v32 c8_i32_24
  let c1_i32_26 : BitVec 32 := 1#32
  let v34 : BitVec 32 := Scalar.muli v33 c1_i32_26
  let v35 : BitVec 32 := Scalar.addi c0_i32_27 v34
  v35.toNat
def k0_dev7 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v36 : BitVec 32 := Scalar.addi v2 c4_i32
  let c8_i32_28 : BitVec 32 := 8#32
  let v37 : BitVec 32 := Scalar.remsi v36 c8_i32_28
  let c1_i32_30 : BitVec 32 := 1#32
  let v38 : BitVec 32 := Scalar.muli v37 c1_i32_30
  let v39 : BitVec 32 := Scalar.addi c0_i32_31 v38
  v39.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32 : BitVec 32 := 32#32
  let v288 : BitVec 32 := Scalar.muli v2 c32_i32
  let v289 : Index := Scalar.indexCast v288
  let c0_111 : Index := 0#32
  ![v289.toNat, 0]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v291 : Index := Scalar.indexCast v2
  let c0_112 : Index := 0#32
  let c0_113 : Index := 0#32
  ![v291.toNat, 0, 0]
def k0_off4 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_121 : BitVec 32 := 0#32
  let c0_i32_122 : BitVec 32 := 0#32
  ![v2.toNat, 0, 0]
def k0_off6 (d0 : Dev nD) (c6_i32_115 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v295 : BitVec 32 := Scalar.addi v2 c6_i32_115
  let c8_i32_116 : BitVec 32 := 8#32
  let v296 : BitVec 32 := Scalar.remsi v295 c8_i32_116
  let c32_i32_117 : BitVec 32 := 32#32
  let v297 : BitVec 32 := Scalar.muli v296 c32_i32_117
  let c0_i32_123 : BitVec 32 := 0#32
  ![v297.toNat, 0]
def k0_dev8 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_115 : BitVec 32 := 6#32
  let v295 : BitVec 32 := Scalar.addi v2 c6_i32_115
  let c8_i32_116 : BitVec 32 := 8#32
  let v296 : BitVec 32 := Scalar.remsi v295 c8_i32_116
  let c1_i32_119 : BitVec 32 := 1#32
  let v298 : BitVec 32 := Scalar.muli v296 c1_i32_119
  let v299 : BitVec 32 := Scalar.addi c0_i32_120 v298
  v299.toNat
def k0_dev9 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_124 : BitVec 32 := 2#32
  let v307 : BitVec 32 := Scalar.addi v2 c2_i32_124
  let c8_i32_125 : BitVec 32 := 8#32
  let v308 : BitVec 32 := Scalar.remsi v307 c8_i32_125
  let c1_i32_128 : BitVec 32 := 1#32
  let v310 : BitVec 32 := Scalar.muli v308 c1_i32_128
  let v311 : BitVec 32 := Scalar.addi c0_i32_129 v310
  v311.toNat
def k0_dev10 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_133 : BitVec 32 := 5#32
  let v319 : BitVec 32 := Scalar.addi v2 c5_i32_133
  let c8_i32_134 : BitVec 32 := 8#32
  let v320 : BitVec 32 := Scalar.remsi v319 c8_i32_134
  let c1_i32_137 : BitVec 32 := 1#32
  let v322 : BitVec 32 := Scalar.muli v320 c1_i32_137
  let v323 : BitVec 32 := Scalar.addi c0_i32_138 v322
  v323.toNat
def k0_dev11 (d0 : Dev nD) : Nat :=
  let c0_i32_147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_142 : BitVec 32 := 7#32
  let v331 : BitVec 32 := Scalar.addi v2 c7_i32_142
  let c8_i32_143 : BitVec 32 := 8#32
  let v332 : BitVec 32 := Scalar.remsi v331 c8_i32_143
  let c1_i32_146 : BitVec 32 := 1#32
  let v334 : BitVec 32 := Scalar.muli v332 c1_i32_146
  let v335 : BitVec 32 := Scalar.addi c0_i32_147 v334
  v335.toNat
def k0_dev12 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_151 : BitVec 32 := 1#32
  let v343 : BitVec 32 := Scalar.addi v2 c1_i32_151
  let c8_i32_152 : BitVec 32 := 8#32
  let v344 : BitVec 32 := Scalar.remsi v343 c8_i32_152
  let c1_i32_155 : BitVec 32 := 1#32
  let v346 : BitVec 32 := Scalar.muli v344 c1_i32_155
  let v347 : BitVec 32 := Scalar.addi c0_i32_156 v346
  v347.toNat
def k0_dev13 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_160 : BitVec 32 := 3#32
  let v355 : BitVec 32 := Scalar.addi v2 c3_i32_160
  let c8_i32_161 : BitVec 32 := 8#32
  let v356 : BitVec 32 := Scalar.remsi v355 c8_i32_161
  let c1_i32_164 : BitVec 32 := 1#32
  let v358 : BitVec 32 := Scalar.muli v356 c1_i32_164
  let v359 : BitVec 32 := Scalar.addi c0_i32_165 v358
  v359.toNat
def k0_dev14 (d0 : Dev nD) : Nat :=
  let c0_i32_174 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_169 : BitVec 32 := 4#32
  let v367 : BitVec 32 := Scalar.addi v2 c4_i32_169
  let c8_i32_170 : BitVec 32 := 8#32
  let v368 : BitVec 32 := Scalar.remsi v367 c8_i32_170
  let c1_i32_173 : BitVec 32 := 1#32
  let v370 : BitVec 32 := Scalar.muli v368 c1_i32_173
  let v371 : BitVec 32 := Scalar.addi c0_i32_174 v370
  v371.toNat
def k0_off7 (d0 : Dev nD) (c6_i32_183 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v386 : BitVec 32 := Scalar.subi v2 c6_i32_183
  let c8_i32_184 : BitVec 32 := 8#32
  let v387 : BitVec 32 := Scalar.addi v386 c8_i32_184
  let c8_i32_185 : BitVec 32 := 8#32
  let v388 : BitVec 32 := Scalar.remsi v387 c8_i32_185
  ![v388.toNat]
def k0_off8 (d0 : Dev nD) (c6_i32_183 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v386 : BitVec 32 := Scalar.subi v2 c6_i32_183
  let c8_i32_184 : BitVec 32 := 8#32
  let v387 : BitVec 32 := Scalar.addi v386 c8_i32_184
  let c8_i32_185 : BitVec 32 := 8#32
  let v388 : BitVec 32 := Scalar.remsi v387 c8_i32_185
  let c0_i32_189 : BitVec 32 := 0#32
  let c0_i32_190 : BitVec 32 := 0#32
  ![v388.toNat, 0, 0]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_277 : BitVec 32 := 32#32
  let v481 : BitVec 32 := Scalar.muli v2 c32_i32_277
  let c0_i32_282 : BitVec 32 := 0#32
  ![v481.toNat, 0]
def k0_dev15 (d0 : Dev nD) : Nat :=
  let c0_i32_281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_275 : BitVec 32 := 6#32
  let v479 : BitVec 32 := Scalar.addi v2 c6_i32_275
  let c8_i32_276 : BitVec 32 := 8#32
  let v480 : BitVec 32 := Scalar.remsi v479 c8_i32_276
  let c1_i32_280 : BitVec 32 := 1#32
  let v482 : BitVec 32 := Scalar.muli v480 c1_i32_280
  let v483 : BitVec 32 := Scalar.addi c0_i32_281 v482
  v483.toNat
def k0_dev16 (d0 : Dev nD) : Nat :=
  let c0_i32_289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_283 : BitVec 32 := 2#32
  let v489 : BitVec 32 := Scalar.addi v2 c2_i32_283
  let c8_i32_284 : BitVec 32 := 8#32
  let v490 : BitVec 32 := Scalar.remsi v489 c8_i32_284
  let c1_i32_288 : BitVec 32 := 1#32
  let v492 : BitVec 32 := Scalar.muli v490 c1_i32_288
  let v493 : BitVec 32 := Scalar.addi c0_i32_289 v492
  v493.toNat
def k0_dev17 (d0 : Dev nD) : Nat :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_291 : BitVec 32 := 5#32
  let v499 : BitVec 32 := Scalar.addi v2 c5_i32_291
  let c8_i32_292 : BitVec 32 := 8#32
  let v500 : BitVec 32 := Scalar.remsi v499 c8_i32_292
  let c1_i32_296 : BitVec 32 := 1#32
  let v502 : BitVec 32 := Scalar.muli v500 c1_i32_296
  let v503 : BitVec 32 := Scalar.addi c0_i32_297 v502
  v503.toNat
def k0_dev18 (d0 : Dev nD) : Nat :=
  let c0_i32_305 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_299 : BitVec 32 := 7#32
  let v509 : BitVec 32 := Scalar.addi v2 c7_i32_299
  let c8_i32_300 : BitVec 32 := 8#32
  let v510 : BitVec 32 := Scalar.remsi v509 c8_i32_300
  let c1_i32_304 : BitVec 32 := 1#32
  let v512 : BitVec 32 := Scalar.muli v510 c1_i32_304
  let v513 : BitVec 32 := Scalar.addi c0_i32_305 v512
  v513.toNat
def k0_dev19 (d0 : Dev nD) : Nat :=
  let c0_i32_313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_307 : BitVec 32 := 1#32
  let v519 : BitVec 32 := Scalar.addi v2 c1_i32_307
  let c8_i32_308 : BitVec 32 := 8#32
  let v520 : BitVec 32 := Scalar.remsi v519 c8_i32_308
  let c1_i32_312 : BitVec 32 := 1#32
  let v522 : BitVec 32 := Scalar.muli v520 c1_i32_312
  let v523 : BitVec 32 := Scalar.addi c0_i32_313 v522
  v523.toNat
def k0_dev20 (d0 : Dev nD) : Nat :=
  let c0_i32_321 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_315 : BitVec 32 := 3#32
  let v529 : BitVec 32 := Scalar.addi v2 c3_i32_315
  let c8_i32_316 : BitVec 32 := 8#32
  let v530 : BitVec 32 := Scalar.remsi v529 c8_i32_316
  let c1_i32_320 : BitVec 32 := 1#32
  let v532 : BitVec 32 := Scalar.muli v530 c1_i32_320
  let v533 : BitVec 32 := Scalar.addi c0_i32_321 v532
  v533.toNat
def k0_dev21 (d0 : Dev nD) : Nat :=
  let c0_i32_329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_323 : BitVec 32 := 4#32
  let v539 : BitVec 32 := Scalar.addi v2 c4_i32_323
  let c8_i32_324 : BitVec 32 := 8#32
  let v540 : BitVec 32 := Scalar.remsi v539 c8_i32_324
  let c1_i32_328 : BitVec 32 := 1#32
  let v542 : BitVec 32 := Scalar.muli v540 c1_i32_328
  let v543 : BitVec 32 := Scalar.addi c0_i32_329 v542
  v543.toNat
def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_333 : BitVec 32 := 32#32
  let v550 : BitVec 32 := Scalar.muli v2 c32_i32_333
  let v551 : Index := Scalar.indexCast v550
  let c0_334 : Index := 0#32
  ![v551.toNat, 0]
def k0_off11 (d0 : Dev nD) (c6_i32_335 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v555 : BitVec 32 := Scalar.subi v2 c6_i32_335
  let c8_i32_336 : BitVec 32 := 8#32
  let v556 : BitVec 32 := Scalar.addi v555 c8_i32_336
  let c8_i32_337 : BitVec 32 := 8#32
  let v557 : BitVec 32 := Scalar.remsi v556 c8_i32_337
  let c32_i32_338 : BitVec 32 := 32#32
  let v558 : BitVec 32 := Scalar.muli v557 c32_i32_338
  let c0_i32_343 : BitVec 32 := 0#32
  ![v558.toNat, 0]
abbrev stage0_0 : Fin 1 → Memref sig .tc .vmem S2x128x4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x128x512 : Shape := ⟨3, ![2, 128, 512]⟩
abbrev S512x2048 : Shape := ⟨2, ![512, 2048]⟩
abbrev S2x128x32x64 : Shape := ⟨4, ![2, 128, 32, 64]⟩
abbrev S2048x512 : Shape := ⟨2, ![2048, 512]⟩
abbrev S2x128x2048 : Shape := ⟨3, ![2, 128, 2048]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x32x128x128 : Shape := ⟨4, ![2, 32, 128, 128]⟩
abbrev S1x1x128x128 : Shape := ⟨4, ![1, 1, 128, 128]⟩
abbrev S2x32x128 : Shape := ⟨3, ![2, 32, 128]⟩
abbrev S2x32x128x1 : Shape := ⟨4, ![2, 32, 128, 1]⟩
abbrev S1x1x128x1 : Shape := ⟨4, ![1, 1, 128, 1]⟩
abbrev S2x32x64x128 : Shape := ⟨4, ![2, 32, 64, 128]⟩

abbrev nBuf : Space → Nat
  | .hbm => 89
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x2048, .f32⟩
  | .hbm, ⟨2, _⟩ => ⟨S2x128x32x64, .f32⟩
  | .hbm, ⟨3, _⟩ => ⟨S2x128x32x64, .f32⟩
  | .hbm, ⟨4, _⟩ => ⟨S2048x512, .f32⟩
  | .hbm, ⟨5, _⟩ => ⟨S2x128x2048, .f32⟩
  | .hbm, ⟨6, _⟩ => ⟨S2x128x32x64, .f32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S128, .i32⟩
  | .hbm, ⟨28, _⟩ => ⟨S_, .i32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S1x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S2x32x128x128, .f32⟩
  | .hbm, ⟨51, _⟩ => ⟨S_, .f32⟩
  | .hbm, ⟨52, _⟩ => ⟨S2x32x128x128, .f32⟩
  | .hbm, ⟨53, _⟩ => ⟨S2x32x128x128, .f32⟩
  | .hbm, ⟨54, _⟩ => ⟨S1x1x128x128, .i1⟩
  | .hbm, ⟨55, _⟩ => ⟨S_, .f32⟩
  | .hbm, ⟨56, _⟩ => ⟨S_, .f32⟩
  | .hbm, ⟨57, _⟩ => ⟨S2x32x128x128, .i1⟩
  | .hbm, ⟨58, _⟩ => ⟨S2x32x128x128, .f32⟩
  | .hbm, ⟨59, _⟩ => ⟨S2x32x128x128, .f32⟩
  | .hbm, ⟨60, _⟩ => ⟨S_, .f32⟩
  | .hbm, ⟨61, _⟩ => ⟨S2x32x128, .f32⟩
  | .hbm, ⟨62, _⟩ => ⟨S2x32x128x1, .f32⟩
  | .hbm, ⟨63, _⟩ => ⟨S2x32x128x128, .f32⟩
  | .hbm, ⟨64, _⟩ => ⟨S2x32x128x128, .f32⟩
  | .hbm, ⟨65, _⟩ => ⟨S2x32x128x128, .f32⟩
  | .hbm, ⟨66, _⟩ => ⟨S_, .i1⟩
  | .hbm, ⟨67, _⟩ => ⟨S128, .i1⟩
  | .hbm, ⟨68, _⟩ => ⟨S1x1x128x1, .i1⟩
  | .hbm, ⟨69, _⟩ => ⟨S_, .f32⟩
  | .hbm, ⟨70, _⟩ => ⟨S2x32x128, .f32⟩
  | .hbm, ⟨71, _⟩ => ⟨S2x32x128x1, .f32⟩
  | .hbm, ⟨72, _⟩ => ⟨S_, .f32⟩
  | .hbm, ⟨73, _⟩ => ⟨S_, .f32⟩
  | .hbm, ⟨74, _⟩ => ⟨S2x32x128x1, .i1⟩
  | .hbm, ⟨75, _⟩ => ⟨S2x32x128x1, .f32⟩
  | .hbm, ⟨76, _⟩ => ⟨S2x32x128x1, .f32⟩
  | .hbm, ⟨77, _⟩ => ⟨S2x32x128x128, .f32⟩
  | .hbm, ⟨78, _⟩ => ⟨S2x32x128x128, .f32⟩
  | .hbm, ⟨79, _⟩ => ⟨S1x1x128x1, .i1⟩
  | .hbm, ⟨80, _⟩ => ⟨S_, .f32⟩
  | .hbm, ⟨81, _⟩ => ⟨S_, .f32⟩
  | .hbm, ⟨82, _⟩ => ⟨S2x32x128x128, .i1⟩
  | .hbm, ⟨83, _⟩ => ⟨S2x32x128x128, .f32⟩
  | .hbm, ⟨84, _⟩ => ⟨S2x32x128x128, .f32⟩
  | .hbm, ⟨85, _⟩ => ⟨S2x32x64x128, .f32⟩
  | .hbm, ⟨86, _⟩ => ⟨S2x128x32x64, .f32⟩
  | .hbm, ⟨87, _⟩ => ⟨S2x128x2048, .f32⟩
  | .hbm, ⟨88, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.KProto.lean ====
/-
The exchange protocol of the sparse attention kernel, stated once for every device and every offset.

Device `c` sends at seven offsets `1 … 7` (`r : Fin 7` is the offset less one): `fwd c r` is the device its transfer at that
offset goes to, `bwd c r` the one whose transfer at that offset comes to it. This module names the pieces of buffers that
move (a block of rows of the context, a slot of the gathered blocks, a block of rows of the result), the values they hold,
the cells of the protocol with their one round, and what is owed at launch.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.ViewIndex
public import Idealize.ShloMosaic.Lib.Pointwise
public import Idealize.ShloMosaic.Lib.Transfers
public import Idealize.ShloMosaic.Lib.Ring
public import Idealize.ShloMosaic.Lib.Tactic

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pointwise

variable {F : FTy → Type} [FloatOps F] [Named F]

/-! ## Ghost state: the pipeline's rounds, the exchange's rounds, the counters of the local copies -/

/-- The exchange's own rounds, duties named by an offset less one. -/
abbrev UX : Type := URounds (GSem nD τ sig) (Fin 7)
abbrev UU : Type := UR sig nD τ × (UX × Counters)

local notation "𝕄" => MT nD τ sig Unit (Elt F) ℕ UU ℕ

abbrev EP : Emb (UR sig nD τ) (MT nD τ sig Unit (Elt F) ℕ UU ℕ) := embL
/-- Where the exchange's rounds live. -/
def ER : Emb UX (MT nD τ sig Unit (Elt F) ℕ UU ℕ) :=
  ((Emb.inl : Emb UX (UX × Counters)).trans (Emb.inr : Emb (UX × Counters) UU)).trans
    (uEmb (nD := nD) (sig := sig) (Ix := Unit) (Val := Elt F) (Name := ℕ) (U := UU) (Lvl := ℕ)).toEmb
instance ER_landsIn : (ER : Emb UX 𝕄).LandsIn (upEmb : UEmb _ 𝕄) := by unfold ER; infer_instance
/-- Where the local copies' counters live. -/
def EC : UEmb Counters (MT nD τ sig Unit (Elt F) ℕ UU ℕ) :=
  ((UEmb.inr : UEmb Counters (UX × Counters)).trans (UEmb.inr : UEmb (UX × Counters) UU)).trans
    (uEmb (nD := nD) (sig := sig) (Ix := Unit) (Val := Elt F) (Name := ℕ) (U := UU) (Lvl := ℕ))
instance EC_landsIn : (EC : UEmb Counters 𝕄).LandsIn (upEmb : UEmb _ 𝕄) := by unfold EC; infer_instance

variable (m : (ℓ : Loc nD τ sig) → Buf (Elt F) ℓ) (ρ : Dev nD → PrngReg)

/-- The memory at launch: any contents, every semaphore counter zero. -/
def s₀ : MemSt nD τ sig (Elt F) := ⟨m, fun _ => 0, ρ⟩

/-! ## Offsets around the mesh -/

set_option backward.proofsInPublic true in
/-- The device at offset `r + 1` after `c`. -/
def fwd (c : Dev nD) (r : Fin 7) : Dev nD := ⟨(c.val + r.val + 1) % 8, Nat.mod_lt _ (by decide)⟩
set_option backward.proofsInPublic true in
/-- The device at offset `r + 1` before `c`. -/
def bwd (c : Dev nD) (r : Fin 7) : Dev nD := ⟨(c.val + 7 - r.val) % 8, Nat.mod_lt _ (by decide)⟩
set_option backward.proofsInPublic true in
/-- The offset that leads back. -/
def rev (r : Fin 7) : Fin 7 := ⟨6 - r.val, by omega⟩

theorem bwd_fwd (c : Dev nD) (r : Fin 7) : bwd (fwd c r) r = c := by revert c r; decide
theorem fwd_bwd (c : Dev nD) (r : Fin 7) : fwd (bwd c r) r = c := by revert c r; decide
theorem fwd_fwd_rev (c : Dev nD) (r : Fin 7) : fwd (fwd c r) (rev r) = c := by revert c r; decide
theorem bwd_eq (c : Dev nD) (r : Fin 7) : bwd c r = fwd c (rev r) := by revert c r; decide
theorem rev_rev (r : Fin 7) : rev (rev r) = r := by revert r; decide
theorem fwd_ne (c : Dev nD) (r : Fin 7) : fwd c r ≠ c := by revert c r; decide
theorem bwd_ne (c : Dev nD) (r : Fin 7) : bwd c r ≠ c := by revert c r; decide
theorem fwd_inj (c : Dev nD) (r r' : Fin 7) (h : fwd c r = fwd c r') : r = r' := by revert c r r'; decide
theorem bwd_inj (c : Dev nD) (r r' : Fin 7) (h : bwd c r = bwd c r') : r = r' := by revert c r r'; decide
theorem fwd_surj (c j : Dev nD) (h : j ≠ c) : ∃ r, fwd c r = j := by revert c j; decide

def revE : Fin 7 ≃ Fin 7 := ⟨rev, rev, rev_rev, rev_rev⟩
/-- Going forward by a fixed offset is a bijection of the devices. -/
def fwdE (r : Fin 7) : Dev nD ≃ Dev nD := ⟨fun c => fwd c r, fun c => bwd c r, fun c => bwd_fwd c r, fun c => fwd_bwd c r⟩

/-! ## Views: a block of rows, a slot -/

abbrev ctxM : Memref sig .tc .vmem S256x256 .bf16 := Memref.whole cc0_scratch5
abbrev commM : Memref sig .tc .vmem S8x32x256 .bf16 := Memref.whole cc0_scratch6
abbrev redM : Memref sig .tc .vmem S32x512 .bf16 := Memref.whole cc0_scratch7
abbrev accM : Memref sig .tc .vmem S256x512 .bf16 := Memref.whole cc0_scratch8

theorem rows256_inb (t : Fin 8) : ∀ a, (![32 * t.val, 0] : Fin 2 → Nat) a + S32x256.size a ≤ S256x256.size a := by
  revert t; decide
theorem rows512_inb (t : Fin 8) : ∀ a, (![32 * t.val, 0] : Fin 2 → Nat) a + S32x512.size a ≤ S256x512.size a := by
  revert t; decide
theorem slot_inb (t : Fin 8) : ∀ a, (![t.val, 0, 0] : Fin 3 → Nat) a + S1x32x256.size a ≤ S8x32x256.size a := by
  revert t; decide

/-- Block `t` of 32 rows of the context. -/
def ctxRow (t : Fin 8) : Memref sig .tc .vmem S32x256 .bf16 :=
  ctxM.slice (Rect.unit (s := S256x256) ![32 * t.val, 0] S32x256.size (rows256_inb t)) (fun _ => rfl)
/-- Slot `t` of the gathered blocks. -/
def commSlot (t : Fin 8) : Memref sig .tc .vmem S32x256 .bf16 :=
  (commM.slice (Rect.unit (s := S8x32x256) ![t.val, 0, 0] S1x32x256.size (slot_inb t)) (fun _ => rfl)).squeeze S32x256 squeezes_S1x32x256_S32x256
/-- Block `t` of 32 rows of the result. -/
def accRow (t : Fin 8) : Memref sig .tc .vmem S32x512 .bf16 :=
  accM.slice (Rect.unit (s := S256x512) ![32 * t.val, 0] S32x512.size (rows512_inb t)) (fun _ => rfl)

/-- A slice at offsets that are equal is the same slice. -/
theorem ctx_slice_eq {off : Fin 2 → Nat} {inb} {t : Fin 8} (h : off = ![32 * t.val, 0]) :
    ctxM.slice (Rect.unit (s := S256x256) off S32x256.size inb) (fun _ => rfl) = ctxRow t := by subst h; rfl
theorem acc_slice_eq {off : Fin 2 → Nat} {inb} {t : Fin 8} (h : off = ![32 * t.val, 0]) :
    accM.slice (Rect.unit (s := S256x512) off S32x512.size inb) (fun _ => rfl) = accRow t := by subst h; rfl
theorem comm_slice_eq {off : Fin 3 → Nat} {inb} {t : Fin 8} (h : off = ![t.val, 0, 0]) :
    (commM.slice (Rect.unit (s := S8x32x256) off S1x32x256.size inb) (fun _ => rfl)).squeeze S32x256 squeezes_S1x32x256_S32x256 = commSlot t := by
  subst h; rfl

/-- The elements of block `t` of the context: its 32 rows. -/
theorem mem_ctxRow (t : Fin 8) (i : S256x256.Idx) : i ∈ (ctxRow t).view.set ↔ (i 0).val / 32 = t.val := by
  unfold ctxRow
  rw [show ((ctxM.slice (Rect.unit (s := S256x256) ![32 * t.val, 0] S32x256.size (rows256_inb t)) (fun _ => rfl)).view.set)
    = (Rect.unit (s := S256x256) ![32 * t.val, 0] S32x256.size (rows256_inb t)).set from View.set_slice_whole _ _, Rect.mem_set_unit, Fin.forall_fin_two]
  have h0 : (i 1).val < 256 := (i 1).isLt
  show ((32 * t.val ≤ (i 0).val ∧ (i 0).val < 32 * t.val + 32) ∧ (0 ≤ (i 1).val ∧ (i 1).val < 0 + 256)) ↔ _
  omega
theorem mem_accRow (t : Fin 8) (i : S256x512.Idx) : i ∈ (accRow t).view.set ↔ (i 0).val / 32 = t.val := by
  unfold accRow
  rw [show ((accM.slice (Rect.unit (s := S256x512) ![32 * t.val, 0] S32x512.size (rows512_inb t)) (fun _ => rfl)).view.set)
    = (Rect.unit (s := S256x512) ![32 * t.val, 0] S32x512.size (rows512_inb t)).set from View.set_slice_whole _ _, Rect.mem_set_unit, Fin.forall_fin_two]
  have h0 : (i 1).val < 512 := (i 1).isLt
  show ((32 * t.val ≤ (i 0).val ∧ (i 0).val < 32 * t.val + 32) ∧ (0 ≤ (i 1).val ∧ (i 1).val < 0 + 512)) ↔ _
  omega
theorem mem_commSlot (t : Fin 8) (i : S8x32x256.Idx) : i ∈ (commSlot t).view.set ↔ (i 0).val = t.val := by
  have hset : (commSlot t).view.set = (Rect.unit (s := S8x32x256) ![t.val, 0, 0] S1x32x256.size (slot_inb t)).set :=
    (View.set_reshape (commM.slice (Rect.unit (s := S8x32x256) ![t.val, 0, 0] S1x32x256.size (slot_inb t)) (fun _ => rfl)).view _).trans
      (View.set_slice_whole _ _)
  refine (iff_of_eq (congrArg (fun S : Finset S8x32x256.Idx => i ∈ S) hset)).trans ?_
  rw [Rect.mem_set_unit]
  have h1 : (i 1).val < 32 := (i 1).isLt
  have h2 : (i 2).val < 256 := (i 2).isLt
  refine Fin.forall_fin_succ.trans ((and_congr Iff.rfl Fin.forall_fin_two).trans ?_)
  show ((t.val ≤ (i 0).val ∧ (i 0).val < t.val + 1) ∧ (0 ≤ (i 1).val ∧ (i 1).val < 0 + 32) ∧ (0 ≤ (i 2).val ∧ (i 2).val < 0 + 256)) ↔ _
  omega

/-! ## What the buffers hold -/

/-- The queries' input on device `c`. -/
def xAt (c : Dev nD) : Vec F S2x128x512 .f32 := m ((c : Thread nD τ).loc main_arg0)
/-- Device `c`'s block of columns of the query projection. -/
def wqAt (c : Dev nD) : Vec F S512x256 .f32 :=
  ((Memref.whole main_arg1).slice (Rect.unit (s := S512x2048) (k0_off1 c) S512x256.size (k0_off1_inb c)) (fun _ => rfl)).view.read (Elt F)
    (m ((c : Thread nD τ).loc main_arg1))
/-- Device `c`'s keys and values, as the pipeline stages them. -/
def kAt (c : Dev nD) : Vec F S2x128x4x64 .f32 := (win0_0.blk (0 : Fin 1)).view.read (Elt F) ((s₀ m ρ).mem ((c : Thread nD τ).loc main_arg2))
def vAt (c : Dev nD) : Vec F S2x128x4x64 .f32 := (win0_1.blk (0 : Fin 1)).view.read (Elt F) ((s₀ m ρ).mem ((c : Thread nD τ).loc main_arg3))
/-- The output projection on device `c`. -/
def woAt (c : Dev nD) : Vec F S2048x512 .f32 := m ((c : Thread nD τ).loc main_arg4)

/-- The row and column numbers of the scores. -/
def rowI : IVec S256x256 32 := iota .tc S256x256 32 [0] iota_S256x256_d0_w32
def colI : IVec S256x256 32 := iota .tc S256x256 32 [1] iota_S256x256_d1_w32
/-- The five mask payloads on these numbers. -/
def msk1 : IVec S256x256 1 :=
  k0_pay7 colI k0_pay4 128#32 k0_pay5 k0_pay6 (Scalar.extui (Scalar.cmpi .sgt 128#32 0#32)) (Scalar.cmpi .slt 128#32 0#32)
def msk2 : IVec S256x256 32 := k0_pay12 (k0_pay9 colI) (k0_pay10 colI) (k0_pay11 colI)
def msk3 : IVec S256x256 32 := k0_pay14 rowI
def msk4 : IVec S256x256 1 := k0_pay15 rowI
def msk5 : IVec S256x256 32 := k0_pay16 rowI

/-- The four heads' context from projected queries `q`, keys `k` and values `v`. -/
def heads (q : FVec F S256x256 .bf16) (k v : FVec F S2x128x4x64 .bf16) : FVec F S256x256 .f32 :=
  k0_pay21 q k v (k0_pay17 msk1 msk2 msk3 msk4 msk5) (k0_pay18 q k v msk1 msk2 msk3 msk4 msk5) (k0_pay19 v)
    (k0_pay20 q k msk1 msk2 msk3 msk4 msk5) (constant S256x64 .f32 0x00000000#32)

/-- The context of device `c`'s heads, all rows. -/
def ctxF (c : Dev nD) : Vec F S256x256 .bf16 :=
  k0_pay22 (heads (k0_pay1 (xAt m c) (wqAt m c)) (k0_pay2 (kAt m ρ c)) (k0_pay3 (vAt m ρ c)))

set_option backward.proofsInPublic true in
/-- Row `a` of block `t` of 32 rows. -/
def rowAt (t : Fin 8) (a : Fin 32) : Fin 256 := ⟨32 * t.val + a.val, by omega⟩

/-- The gathered blocks on device `c`: slot `j` holds device `j`'s context at block `c` of rows. -/
def commF (c : Dev nD) : Vec F S8x32x256 .bf16 := fun i => ctxF m ρ (i 0) (ix2 (rowAt c (i 1)) (i 2))
/-- Slot `j` of them as a load reads it. -/
def slotV (c : Dev nD) (j : Fin 8) : Vec F S1x32x256 .bf16 := fun i => ctxF m ρ j (ix2 (rowAt c (i 1)) (i 2))
/-- The rows of the result device `c` makes. -/
def redF (c : Dev nD) : Vec F S32x512 .bf16 :=
  k0_pay29 (k0_pay25 (slotV m ρ c 0)) (k0_pay26 (slotV m ρ c 1)) (k0_pay27 (slotV m ρ c 2)) (k0_pay28 (slotV m ρ c 3))
    (slotV m ρ c 4) (slotV m ρ c 5) (slotV m ρ c 6) (slotV m ρ c 7) (k0_pay24 (woAt m c))
set_option backward.proofsInPublic true in
/-- The block of a row and its place in it. -/
def blkOf (a : Fin 256) : Fin 8 := ⟨a.val / 32, by omega⟩
set_option backward.proofsInPublic true in
def offOf (a : Fin 256) : Fin 32 := ⟨a.val % 32, by omega⟩
/-- The gathered result: block `j` of rows is device `j`'s. The same on every device. -/
def accF : Vec F S256x512 .bf16 := fun i => redF m ρ (blkOf (i 0)) (ix2 (offOf (i 0)) (i 1))
/-- The kernel's result. -/
def outF : Vec F S2x128x512 .f32 := k0_pay31 (accF m ρ)

/-! ## The pieces, as assertions -/

def ctxPts (c : Dev nD) (t : Fin 8) (f : Buf (Elt F) ((ctxRow t).view.loc (c : Thread nD τ))) : sProp 𝕄 :=
  (ctxRow t).view.loc (c : Thread nD τ) ↦[(ctxRow t).view.set]{fullShare} f
def commPts (c : Dev nD) (t : Fin 8) (f : Buf (Elt F) ((commSlot t).view.loc (c : Thread nD τ))) : sProp 𝕄 :=
  (commSlot t).view.loc (c : Thread nD τ) ↦[(commSlot t).view.set]{fullShare} f
def accPts (c : Dev nD) (t : Fin 8) (f : Buf (Elt F) ((accRow t).view.loc (c : Thread nD τ))) : sProp 𝕄 :=
  (accRow t).view.loc (c : Thread nD τ) ↦[(accRow t).view.set]{fullShare} f
def redPts (c : Dev nD) (q : PosShare TreeShare) (f : Buf (Elt F) (redM.view.loc (c : Thread nD τ))) : sProp 𝕄 :=
  redM.view.loc (c : Thread nD τ) ↦[redM.view.set]{q} f

instance ctxPts_storable (c : Dev nD) (t f) : BI.Storable (upEmb : UEmb _ 𝕄) (ctxPts (F := F) c t f) := by unfold ctxPts; infer_instance
instance commPts_storable (c : Dev nD) (t f) : BI.Storable (upEmb : UEmb _ 𝕄) (commPts (F := F) c t f) := by unfold commPts; infer_instance
instance accPts_storable (c : Dev nD) (t f) : BI.Storable (upEmb : UEmb _ 𝕄) (accPts (F := F) c t f) := by unfold accPts; infer_instance
instance redPts_storable (c : Dev nD) (q f) : BI.Storable (upEmb : UEmb _ 𝕄) (redPts (F := F) c q f) := by unfold redPts; infer_instance

/-- The share of the finished rows lent to the transfer at offset `r + 1`. -/
def redShare (r : Fin 7) : PosShare TreeShare := Transfers.shareTok fullShare 7 r

/-! ## Reading a piece, index by index -/

/-- Indices of a matrix with equal coordinates are equal. -/
theorem ext2 {d : Fin 2 → Nat} {x y : (⟨2, d⟩ : Shape).Idx} (h0 : (x 0).val = (y 0).val) (h1 : (x 1).val = (y 1).val) : x = y :=
  funext fun a => by
    match a with
    | ⟨0, _⟩ => exact Fin.ext h0
    | ⟨1, _⟩ => exact Fin.ext h1

theorem read_ctxRow (t : Fin 8) (f : Vec F S256x256 .bf16) (a : Fin 32) (b : Fin 256) :
    (ctxRow t).view.read (Elt F) f (ix2 a b) = f (ix2 (rowAt t a) b) := by
  refine congrArg f (ext2 ?_ ?_)
  · show 32 * t.val + 1 * a.val = 32 * t.val + a.val; omega
  · show 0 + 1 * b.val = b.val; omega
theorem read_accRow (t : Fin 8) (f : Vec F S256x512 .bf16) (a : Fin 32) (b : Fin 512) :
    (accRow t).view.read (Elt F) f (ix2 a b) = f (ix2 (rowAt t a) b) := by
  refine congrArg f (ext2 ?_ ?_)
  · show 32 * t.val + 1 * a.val = 32 * t.val + a.val; omega
  · show 0 + 1 * b.val = b.val; omega
theorem read_commSlot (t : Fin 8) (f : Vec F S8x32x256 .bf16) (a : Fin 32) (b : Fin 256) :
    (commSlot t).view.read (Elt F) f (ix2 a b) = f (ix3 t a b) := by
  show f ((Rect.unit (s := S8x32x256) ![t.val, 0, 0] S1x32x256.size (slot_inb t)).emb
    (Shape.reshapeEquiv (s := S1x32x256) (s' := S32x256) squeezes_S1x32x256_S32x256.numel_eq (ix2 a b))) = _
  rw [show Shape.reshapeEquiv (s := S1x32x256) (s' := S32x256) squeezes_S1x32x256_S32x256.numel_eq (ix2 a b) = ix3 (0 : Fin 1) a b
    from ValueIdx.reshapeEquiv_ix2_1ab _ a b]
  refine congrArg f (Shape.idx3_ext ?_ ?_ ?_)
  · show t.val + 1 * 0 = t.val; omega
  · show 0 + 1 * a.val = a.val; omega
  · show 0 + 1 * b.val = b.val; omega

/-- What a transfer of a context block lands is what the receiver's slot is to hold. -/
theorem land_comm (c : Dev nD) (t : Dev nD) :
    (commSlot c).view.read (Elt F) (commF m ρ t) = (ctxRow t).view.read (Elt F) (ctxF m ρ c) := by
  funext i
  rw [eq_ix2 i]
  exact (read_commSlot c (commF m ρ t) (i 0) (i 1)).trans (read_ctxRow t (ctxF m ρ c) (i 0) (i 1)).symm
/-- What a transfer of finished rows lands is the receiver's block of the result. -/
theorem land_acc (c : Dev nD) :
    (accRow c).view.read (Elt F) (accF m ρ) = redM.view.read (Elt F) (redF m ρ c) := by
  funext i
  rw [eq_ix2 i]
  refine (read_accRow c (accF m ρ) (i 0) (i 1)).trans ?_
  show redF m ρ (blkOf (rowAt c (i 0))) (ix2 (offOf (rowAt c (i 0))) (i 1)) = redF m ρ c (ix2 (i 0) (i 1))
  have h : (i 0).val < 32 := (i 0).isLt
  rw [show blkOf (rowAt c (i 0)) = c from Fin.ext (by show (32 * c.val + (i 0).val) / 32 = c.val; omega),
    show offOf (rowAt c (i 0)) = i 0 from Fin.ext (by show (32 * c.val + (i 0).val) % 32 = (i 0).val; omega)]

end Cert.KernelIdeal.Run

end
-- ==== Proof.KSched.lean ====
/-
The one-round schedule of the sparse attention kernel's exchange: every cell's duties, amounts and payloads, the levels, and
what a device owes at each stage of its run.
-/
module

public import proofs.«01_k».proof.Proof.KProto

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pointwise

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The cells -/

/-- The runtime's barrier semaphore. -/
abbrev barS : Sem sig := (SemArray.scalar (sig.barrier 0 rfl) : Sems sig S_).sem
set_option backward.proofsInPublic true in
def sSend1 (r : Fin 7) : DmaSem sig := ⟨5 + r.val, by show 5 + r.val < 34; omega⟩
set_option backward.proofsInPublic true in
def sRecv1 (j : Fin 8) : DmaSem sig := ⟨12 + j.val, by show 12 + j.val < 34; omega⟩
set_option backward.proofsInPublic true in
def sSend2 (r : Fin 7) : DmaSem sig := ⟨20 + r.val, by show 20 + r.val < 34; omega⟩
set_option backward.proofsInPublic true in
def sRecv2 (r : Fin 7) : DmaSem sig := ⟨27 + r.val, by show 27 + r.val < 34; omega⟩

abbrev barCell (c : Dev nD) : GSem nD τ sig := ((c : Thread nD τ), .reg barS)
abbrev send1Cell (c : Dev nD) (r : Fin 7) : GSem nD τ sig := ((c : Thread nD τ), .dma (sSend1 r))
abbrev recv1Cell (c : Dev nD) (j : Fin 8) : GSem nD τ sig := ((c : Thread nD τ), .dma (sRecv1 j))
abbrev send2Cell (c : Dev nD) (r : Fin 7) : GSem nD τ sig := ((c : Thread nD τ), .dma (sSend2 r))
abbrev recv2Cell (c : Dev nD) (r : Fin 7) : GSem nD τ sig := ((c : Thread nD τ), .dma (sRecv2 r))

set_option backward.proofsInPublic true in
/-- The exchange's thirty semaphores on a device: the barrier, then the four arrays in order. -/
def csem (i : Fin 30) : SemLoc sig := if i.val = 0 then .reg barS else .dma ⟨i.val + 4, by show i.val + 4 < 34; omega⟩
/-- A cell of the exchange. -/
def kcell (ck : Dev nD × Fin 30) : GSem nD τ sig := ((ck.1 : Thread nD τ), csem ck.2)

set_option backward.proofsInPublic true in
def iSend1 (r : Fin 7) : Fin 30 := ⟨1 + r.val, by omega⟩
set_option backward.proofsInPublic true in
def iRecv1 (j : Fin 8) : Fin 30 := ⟨8 + j.val, by omega⟩
set_option backward.proofsInPublic true in
def iSend2 (r : Fin 7) : Fin 30 := ⟨16 + r.val, by omega⟩
set_option backward.proofsInPublic true in
def iRecv2 (r : Fin 7) : Fin 30 := ⟨23 + r.val, by omega⟩

theorem csem_bar : csem 0 = .reg barS := rfl
theorem csem_send1 (r : Fin 7) : csem (iSend1 r) = .dma (sSend1 r) := by revert r; decide
theorem csem_recv1 (j : Fin 8) : csem (iRecv1 j) = .dma (sRecv1 j) := by revert j; decide
theorem csem_send2 (r : Fin 7) : csem (iSend2 r) = .dma (sSend2 r) := by revert r; decide
theorem csem_recv2 (r : Fin 7) : csem (iRecv2 r) = .dma (sRecv2 r) := by revert r; decide
theorem csem_inj : Function.Injective csem := by decide
theorem kcell_inj : Function.Injective kcell := fun a b h => by
  have h1 : ((a.1 : Thread nD τ)) = (b.1 : Thread nD τ) := congrArg Prod.fst h
  have h2 : csem a.2 = csem b.2 := congrArg Prod.snd h
  exact Prod.ext (congrArg (fun t : Thread nD τ => t.1) h1) (csem_inj h2)

theorem kcell_bar (c : Dev nD) : kcell (c, 0) = barCell c := rfl
theorem kcell_send1 (c : Dev nD) (r : Fin 7) : kcell (c, iSend1 r) = send1Cell c r := congrArg (Prod.mk (c : Thread nD τ)) (csem_send1 r)
theorem kcell_recv1 (c : Dev nD) (j : Fin 8) : kcell (c, iRecv1 j) = recv1Cell c j := congrArg (Prod.mk (c : Thread nD τ)) (csem_recv1 j)
theorem kcell_send2 (c : Dev nD) (r : Fin 7) : kcell (c, iSend2 r) = send2Cell c r := congrArg (Prod.mk (c : Thread nD τ)) (csem_send2 r)
theorem kcell_recv2 (c : Dev nD) (r : Fin 7) : kcell (c, iRecv2 r) = recv2Cell c r := congrArg (Prod.mk (c : Thread nD τ)) (csem_recv2 r)

/-- The credit of a context block's transfer, and of a block of finished rows. -/
def N1 : ℕ := (commSlot 0).view.dmaCredit
def N2 : ℕ := (accRow 0).view.dmaCredit
theorem N1_pos : 0 < N1 := View.dmaCredit_pos _ (by decide)
theorem N2_pos : 0 < N2 := View.dmaCredit_pos _ (by decide)
theorem credit_comm (t : Fin 8) : (commSlot t).view.dmaCredit = N1 := rfl
theorem credit_ctx (t : Fin 8) : (ctxRow t).view.dmaCredit = N1 := rfl
theorem credit_acc (t : Fin 8) : (accRow t).view.dmaCredit = N2 := rfl
theorem credit_red : redM.view.dmaCredit = N2 := rfl

/-! ## Payloads -/

/-- What the device at offset `r + 1` after `c` hands `c` with its signal: the slot and the block of rows `c` will fill there. -/
def barPay (c : Dev nD) (r : Fin 7) : sProp 𝕄 := iprop((∃ f, commPts (F := F) (fwd c r) c f) ∗ (∃ f, accPts (F := F) (fwd c r) c f))
/-- What comes back when the transfer of a context block has left. -/
def send1Pay (c : Dev nD) (r : Fin 7) : sProp 𝕄 := ctxPts c (fwd c r) (ctxF m ρ c)
/-- What has landed in slot `j`. -/
def recv1Pay (c : Dev nD) (j : Fin 8) : sProp 𝕄 := commPts c j (commF m ρ c)
/-- What comes back when a transfer of the finished rows has left. -/
def send2Pay (c : Dev nD) (r : Fin 7) : sProp 𝕄 := redPts c (redShare r) (redF m ρ c)
/-- What has landed from the device at offset `r + 1` before. -/
def recv2Pay (c : Dev nD) (r : Fin 7) : sProp 𝕄 := accPts c (bwd c r) (accF m ρ)

instance barPay_storable (c : Dev nD) (r) : BI.Storable (upEmb : UEmb _ 𝕄) (barPay (F := F) c r) := by unfold barPay; infer_instance
instance send1Pay_storable (c : Dev nD) (r) : BI.Storable (upEmb : UEmb _ 𝕄) (send1Pay m ρ c r) := ctxPts_storable _ _ _
instance recv1Pay_storable (c : Dev nD) (r) : BI.Storable (upEmb : UEmb _ 𝕄) (recv1Pay m ρ c r) := commPts_storable _ _ _
instance send2Pay_storable (c : Dev nD) (r) : BI.Storable (upEmb : UEmb _ 𝕄) (send2Pay m ρ c r) := by unfold send2Pay; infer_instance
instance recv2Pay_storable (c : Dev nD) (r) : BI.Storable (upEmb : UEmb _ 𝕄) (recv2Pay m ρ c r) := accPts_storable _ _ _

set_option backward.proofsInPublic true in
/-- The payload on a transfer's semaphore. -/
def dmaPay (c : Dev nD) (q : ℕ) : sProp 𝕄 :=
  if h : 5 ≤ q ∧ q < 12 then send1Pay m ρ c ⟨q - 5, by omega⟩
  else if h : 12 ≤ q ∧ q < 20 then recv1Pay m ρ c ⟨q - 12, by omega⟩
  else if h : 20 ≤ q ∧ q < 27 then send2Pay m ρ c ⟨q - 20, by omega⟩
  else if h : 27 ≤ q ∧ q < 34 then recv2Pay m ρ c ⟨q - 27, by omega⟩
  else iprop(emp)

instance dmaPay_storable (c : Dev nD) (q : ℕ) : BI.Storable (upEmb : UEmb _ 𝕄) (dmaPay m ρ c q) := by
  unfold dmaPay; (repeat' split) <;> infer_instance

theorem dmaPay_send1 (c : Dev nD) (r : Fin 7) : dmaPay m ρ c (sSend1 r).val = send1Pay m ρ c r := by
  have h : 5 ≤ 5 + r.val ∧ 5 + r.val < 12 := by omega
  unfold dmaPay; rw [dif_pos (show 5 ≤ (sSend1 r).val ∧ (sSend1 r).val < 12 from h)]
  exact congrArg _ (Fin.ext (Nat.add_sub_cancel_left 5 r.val))
theorem dmaPay_recv1 (c : Dev nD) (j : Fin 8) : dmaPay m ρ c (sRecv1 j).val = recv1Pay m ρ c j := by
  have h : 12 ≤ 12 + j.val ∧ 12 + j.val < 20 := by omega
  have e : (sRecv1 j).val = 12 + j.val := rfl
  unfold dmaPay; rw [dif_neg (by rw [e]; omega), dif_pos (show 12 ≤ (sRecv1 j).val ∧ (sRecv1 j).val < 20 from h)]
  exact congrArg _ (Fin.ext (Nat.add_sub_cancel_left 12 j.val))
theorem dmaPay_send2 (c : Dev nD) (r : Fin 7) : dmaPay m ρ c (sSend2 r).val = send2Pay m ρ c r := by
  have h : 20 ≤ 20 + r.val ∧ 20 + r.val < 27 := by omega
  have e : (sSend2 r).val = 20 + r.val := rfl
  unfold dmaPay; rw [dif_neg (by rw [e]; omega), dif_neg (by rw [e]; omega), dif_pos (show 20 ≤ (sSend2 r).val ∧ (sSend2 r).val < 27 from h)]
  exact congrArg _ (Fin.ext (Nat.add_sub_cancel_left 20 r.val))
theorem dmaPay_recv2 (c : Dev nD) (r : Fin 7) : dmaPay m ρ c (sRecv2 r).val = recv2Pay m ρ c r := by
  have h : 27 ≤ 27 + r.val ∧ 27 + r.val < 34 := by omega
  have e : (sRecv2 r).val = 27 + r.val := rfl
  unfold dmaPay
  rw [dif_neg (by rw [e]; omega), dif_neg (by rw [e]; omega), dif_neg (by rw [e]; omega), dif_pos (show 27 ≤ (sRecv2 r).val ∧ (sRecv2 r).val < 34 from h)]
  exact congrArg _ (Fin.ext (Nat.add_sub_cancel_left 27 r.val))

/-! ## The schedule -/

/-- The duties of a semaphore of device `c` in its one round: seven signals at the barrier, one transfer at each transfer
    semaphore but the one for a transfer to oneself. -/
def dutiesAt (c : Dev nD) : SemLoc sig → Finset (Fin 7)
  | .reg s => if s = barS then Finset.univ else ∅
  | .dma q => if q.val < 5 ∨ q.val = 12 + c.val then ∅ else {0}
def amountAt : SemLoc sig → ℕ
  | .reg _ => 1
  | .dma q => if q.val < 20 then N1 else N2
def payAt (c : Dev nD) (d : Fin 7) : SemLoc sig → sProp 𝕄
  | .reg _ => barPay c d
  | .dma q => dmaPay m ρ c q.val

def Rd : Rounds.Schedule (GSem nD τ sig) (Fin 7) 𝕄 where
  duties g r := if g.1.2 = .tc ∧ r = 0 then dutiesAt g.1.1 g.2 else ∅
  unitless _ := False
  amount g _ _ := amountAt g.2
  payload g _ d := payAt m ρ g.1.1 d g.2
  amount_pos g _ _ _ := by
    rcases g with ⟨t, s | q⟩
    · exact Nat.one_pos
    · show 0 < (if q.val < 20 then N1 else N2)
      split
      · exact N1_pos
      · exact N2_pos

instance Rd_payload_storable (g : GSem nD τ sig) (r : ℕ) (d : Fin 7) : BI.Storable (upEmb : UEmb _ 𝕄) ((Rd (F := F) m ρ).payload g r d) := by
  rcases g with ⟨t, s | q⟩
  · exact barPay_storable _ _
  · exact dmaPay_storable _ _ _ _

theorem duties_tc (c : Dev nD) (s : SemLoc sig) : (Rd (F := F) m ρ).duties ((c : Thread nD τ), s) 0 = dutiesAt c s := by
  dsimp only [Rd]; exact if_pos ⟨rfl, rfl⟩
theorem duties_later (g : GSem nD τ sig) (r : ℕ) (h : 1 ≤ r) : (Rd (F := F) m ρ).duties g r = ∅ := if_neg fun h' => by omega
theorem duties_bar (c : Dev nD) : (Rd (F := F) m ρ).duties (barCell c) 0 = Finset.univ := (duties_tc m ρ c _).trans (by dsimp only [dutiesAt]; exact if_pos rfl)
theorem duties_dma (c : Dev nD) (q : DmaSem sig) (h1 : 5 ≤ q.val) (h2 : q.val ≠ 12 + c.val) :
    (Rd (F := F) m ρ).duties ((c : Thread nD τ), .dma q) 0 = {0} := (duties_tc m ρ c _).trans (if_neg (by omega))
theorem duties_send1 (c : Dev nD) (r : Fin 7) : (Rd (F := F) m ρ).duties (send1Cell c r) 0 = {0} :=
  duties_dma m ρ c _ (by show 5 ≤ 5 + r.val; omega) (by show 5 + r.val ≠ _; omega)
theorem duties_recv1 (c : Dev nD) (j : Fin 8) (h : j ≠ c) : (Rd (F := F) m ρ).duties (recv1Cell c j) 0 = {0} :=
  duties_dma m ρ c _ (by show 5 ≤ 12 + j.val; omega) (by show 12 + j.val ≠ 12 + c.val; intro e; exact h (Fin.ext (by omega)))
theorem duties_send2 (c : Dev nD) (r : Fin 7) : (Rd (F := F) m ρ).duties (send2Cell c r) 0 = {0} :=
  duties_dma m ρ c _ (by show 5 ≤ 20 + r.val; omega) (by show 20 + r.val ≠ _; have : c.val < 8 := c.isLt; omega)
theorem duties_recv2 (c : Dev nD) (r : Fin 7) : (Rd (F := F) m ρ).duties (recv2Cell c r) 0 = {0} :=
  duties_dma m ρ c _ (by show 5 ≤ 27 + r.val; omega) (by show 27 + r.val ≠ _; have : c.val < 8 := c.isLt; omega)
/-- The semaphore for a transfer to oneself is never paid. -/
theorem duties_self (c : Dev nD) (r : ℕ) (h : 0 ≤ r) : (Rd (F := F) m ρ).duties (recv1Cell c c) r = ∅ := by
  rcases Nat.eq_zero_or_pos r with rfl | hr
  · exact (duties_tc m ρ c _).trans (if_pos (Or.inr rfl))
  · exact duties_later m ρ _ r hr

theorem amount_send1 (c : Dev nD) (r d : Fin 7) : (Rd (F := F) m ρ).amount (send1Cell c r) 0 d = N1 := if_pos (by show 5 + r.val < 20; omega)
theorem amount_recv1 (c : Dev nD) (j : Fin 8) (d : Fin 7) : (Rd (F := F) m ρ).amount (recv1Cell c j) 0 d = N1 := if_pos (by show 12 + j.val < 20; omega)
theorem amount_send2 (c : Dev nD) (r d : Fin 7) : (Rd (F := F) m ρ).amount (send2Cell c r) 0 d = N2 := if_neg (by show ¬ 20 + r.val < 20; omega)
theorem amount_recv2 (c : Dev nD) (r d : Fin 7) : (Rd (F := F) m ρ).amount (recv2Cell c r) 0 d = N2 := if_neg (by show ¬ 27 + r.val < 20; omega)
theorem amount_bar (c : Dev nD) (d : Fin 7) : (Rd (F := F) m ρ).amount (barCell c) 0 d = 1 := rfl

theorem payload_bar (c : Dev nD) (d : Fin 7) : (Rd (F := F) m ρ).payload (barCell c) 0 d = barPay c d := rfl
theorem payload_send1 (c : Dev nD) (r d : Fin 7) : (Rd (F := F) m ρ).payload (send1Cell c r) 0 d = send1Pay m ρ c r := dmaPay_send1 m ρ c r
theorem payload_recv1 (c : Dev nD) (j : Fin 8) (d : Fin 7) : (Rd (F := F) m ρ).payload (recv1Cell c j) 0 d = recv1Pay m ρ c j := dmaPay_recv1 m ρ c j
theorem payload_send2 (c : Dev nD) (r d : Fin 7) : (Rd (F := F) m ρ).payload (send2Cell c r) 0 d = send2Pay m ρ c r := dmaPay_send2 m ρ c r
theorem payload_recv2 (c : Dev nD) (r d : Fin 7) : (Rd (F := F) m ρ).payload (recv2Cell c r) 0 d = recv2Pay m ρ c r := dmaPay_recv2 m ρ c r

theorem expect_bar (c : Dev nD) : (Rd (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
/-- A round of one duty expects that duty's amount, -/
theorem expect_one (g : GSem nD τ sig) (n : ℕ) (hd : (Rd (F := F) m ρ).duties g 0 = {0}) (ha : (Rd (F := F) m ρ).amount g 0 0 = n) :
    (Rd (F := F) m ρ).expect g 0 = n := by
  unfold Schedule.expect Schedule.amountOf; rw [hd, Finset.sum_singleton, ha]
/-- and hands over that duty's payload. -/
theorem rest_one (g : GSem nD τ sig) (P : sProp 𝕄) (hd : (Rd (F := F) m ρ).duties g 0 = {0}) (hp : (Rd (F := F) m ρ).payload g 0 0 = P) :
    bigSep ((Rd (F := F) m ρ).duties g 0 \ ∅) (fun d => (Rd (F := F) m ρ).payload g 0 d) = P := by
  rw [Finset.sdiff_empty, hd, bigSep_singleton, hp]
theorem rest_bar (c : Dev nD) :
    bigSep ((Rd (F := F) m ρ).duties (barCell c) 0 \ ∅) (fun d => (Rd (F := F) m ρ).payload (barCell c) 0 d) = bigSep Finset.univ (fun r => barPay (F := F) c r) := by
  rw [Finset.sdiff_empty, duties_bar]; rfl

/-! ## Levels and dues -/

def L (g : GSem nD τ sig) : Finset Unit := if g.1.2 = .tc then {()} else ∅
def lvAt : SemLoc sig → ℕ
  | .reg _ => 1
  | .dma q => if 12 ≤ q.val ∧ q.val < 20 then 2 else if 27 ≤ q.val then 3 else 0
/-- The barrier at 1, the first exchange's arrivals at 2, the second's at 3, everything else at 0. -/
def lv (g : GSem nD τ sig) (_ : Unit) : ℕ := lvAt g.2

theorem L_of_ne (g : GSem nD τ sig) (h : g.1.2 ≠ .tc) : L g = ∅ := if_neg h
theorem L_tc (c : Dev nD) (sm : SemLoc sig) : L ((c : Thread nD τ), sm) = {()} := if_pos rfl
theorem lvAt_recv1 (j : Fin 8) : lvAt (.dma (sRecv1 j)) = 2 := by revert j; decide
theorem lvAt_recv2 (r : Fin 7) : lvAt (.dma (sRecv2 r)) = 3 := by revert r; decide
theorem lvAt_send1 (r : Fin 7) : lvAt (.dma (sSend1 r)) = 0 := by revert r; decide
theorem lvAt_send2 (r : Fin 7) : lvAt (.dma (sSend2 r)) = 0 := by revert r; decide

/-- What is owed, as a list of cells and amounts: the head is paid first. -/
def dues : List (GSem nD τ sig × ℕ) → CellTallies nD τ sig Unit
  | [] => 0
  | p :: l => dues l + tallyAt p.1 () p.2

theorem dues_pos {l : List (GSem nD τ sig × ℕ)} {g : GSem nD τ sig} {u : Unit} (h : 0 < dues l g u) : ∃ n, (g, n) ∈ l := by
  induction l with
  | nil => exact absurd h (Nat.lt_irrefl 0)
  | cons p l ih =>
    by_cases hg : g = p.1
    · exact ⟨p.2, by rw [hg]; exact List.mem_cons_self⟩
    · have h' : 0 < dues l g u + tallyAt p.1 () p.2 g u := h
      rw [tallyAt_apply, if_neg (fun e => hg e.1)] at h'
      obtain ⟨n, hn⟩ := ih h'
      exact ⟨n, List.mem_cons_of_mem _ hn⟩

/-- Offsets less one in program order. -/
abbrev order : List (Fin 7) := [5, 1, 4, 6, 0, 2, 3]
def dBar (c : Dev nD) (r : Fin 7) : GSem nD τ sig × ℕ := (barCell (fwd c r), 1)
def d1 (c : Dev nD) (r : Fin 7) : GSem nD τ sig × ℕ := (recv1Cell (fwd c r) c, N1)
def d2 (c : Dev nD) (r : Fin 7) : GSem nD τ sig × ℕ := (recv2Cell (fwd c r) r, N2)
def duesB (c : Dev nD) : List (GSem nD τ sig × ℕ) := order.map (d2 c)
def duesA (c : Dev nD) : List (GSem nD τ sig × ℕ) := order.map (d1 c) ++ duesB c
def duesS (c : Dev nD) : List (GSem nD τ sig × ℕ) := order.map (dBar c) ++ duesA c
/-- What device `c` owes at launch. -/
def O₀ (c : Dev nD) : CellTallies nD τ sig Unit := dues (duesS c)

/-- Every due of the list is on a TensorCore's cell above level `k`. -/
def Above (k : ℕ) (l : List (GSem nD τ sig × ℕ)) : Prop := ∀ p ∈ l, p.1.1.2 = .tc ∧ k < lvAt p.1.2

theorem above_B (c : Dev nD) : Above 2 (duesB c) := List.forall_mem_map.mpr fun r _ => ⟨rfl, by show 2 < lvAt (.dma (sRecv2 r)); rw [lvAt_recv2]; decide⟩
theorem above_A (c : Dev nD) : Above 1 (duesA c) := fun p hp => by
  rcases List.mem_append.mp hp with h | h
  · revert p; exact fun p _ h => by
      obtain ⟨r, _, rfl⟩ := List.mem_map.mp h
      exact ⟨rfl, by show 1 < lvAt (.dma (sRecv1 c)); rw [lvAt_recv1]; decide⟩
  · exact ⟨(above_B c p h).1, lt_trans (by decide) (above_B c p h).2⟩
theorem above_S (c : Dev nD) : Above 0 (duesS c) := fun p hp => by
  rcases List.mem_append.mp hp with h | h
  · obtain ⟨r, _, rfl⟩ := List.mem_map.mp h
    exact ⟨rfl, by show 0 < 1; decide⟩
  · exact ⟨(above_A c p h).1, lt_trans (by decide) (above_A c p h).2⟩
theorem above_nil (k : ℕ) : Above k [] := fun p hp => absurd hp (by simp)

/-- A device may wait on a semaphore no higher than everything it owes. -/
theorem mayWait (c : Dev nD) (sm : SemLoc sig) (k : ℕ) (l : List (GSem nD τ sig × ℕ)) (hl : Above k l) (hk : lvAt sm ≤ k) :
    (levAts L lv : sProp 𝕄) ⊢ MayWait (c : Thread nD τ) sm () (dues l) := by
  refine MayOwe.of_cut (L := L) (lev := lv) k (fun p hp => by rw [Finset.mem_singleton.mp hp, L_tc]; exact Finset.mem_singleton_self _)
    (fun g u hg => ?_) (fun p hp => by rw [Finset.mem_singleton.mp hp]; exact hk) (fun g u hg => ?_)
  · obtain ⟨n, hn⟩ := dues_pos hg
    unfold L; rw [if_pos (hl _ hn).1]; exact Finset.mem_singleton_self _
  · obtain ⟨n, hn⟩ := dues_pos hg
    exact (hl _ hn).2

/-- What device `c` owes, its past waits forgotten. -/
def owesE (c : Dev nD) (l : List (GSem nD τ sig × ℕ)) : sProp 𝕄 := iprop(∃ W, owes (c : Thread nD τ) (dues l) W)

/-! ## Ghost state a device's run starts from -/

/-- Every cell's invariant and that its round 0 is reached: known to all. -/
def records (K : Dev nD × Fin 30 → ℕ) : sProp 𝕄 :=
  bigSep Finset.univ fun ck : Dev nD × Fin 30 => iprop(cellInv ER (Rd m ρ) (K ck) (kcell ck) ∗ reached ER (kcell ck) 0)

instance records_persistent (K : Dev nD × Fin 30 → ℕ) : BI.Persistent (records m ρ K) := by unfold records; infer_instance

theorem records_at (K : Dev nD × Fin 30 → ℕ) (ck : Dev nD × Fin 30) (g : GSem nD τ sig) (hg : kcell ck = g) :
    records m ρ K ⊢ iprop(cellInv ER (Rd m ρ) (K ck) g ∗ reached ER g 0) := by
  subst hg
  unfold records
  iintro H
  ihave H2 := (Entails.of_eq (bigSep_univ_at (fun ck : Dev nD × Fin 30 => iprop(cellInv ER (Rd m ρ) (K ck) (kcell ck) ∗ reached ER (kcell ck) 0)) ck)) $$ H
  icases H2 with ⟨H2, -⟩
  iexact H2

end Cert.KernelIdeal.Run

end
-- ==== Proof.KSteps.lean ====
/-
One lemma for each kind of effect of the sparse attention kernel's exchange, stated for every device and every offset: a signal,
a send of a context block, a send of finished rows, a wait for a transfer, the barrier's wait, a wait for a local copy.
-/
module

public import proofs.«01_k».proof.Proof.KSched

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pointwise

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-- A written piece is the piece holding whatever reads as what was written. -/
theorem landed (c : Dev nD) {sp : Space} {s : Shape} {e : EltTy} (v : View sig .tc sp s e) (fd g : Buf (Elt F) (v.loc (c : Thread nD τ))) (w : s.Idx → Elt F e)
    (h : v.read (Elt F) g = w) :
    ((v.loc (c : Thread nD τ) ↦[v.set]{fullShare} (v.write (Elt F) fd w Finset.univ)) : sProp 𝕄) = (v.loc (c : Thread nD τ) ↦[v.set]{fullShare} g) := by
  refine pointsTo_congr fun i hi => ?_
  obtain ⟨x, _, rfl⟩ := Finset.mem_map.mp hi
  exact View.eq_of_read_eq (v := v) (by rw [View.read_write_univ, h])

theorem landed_comm (c t : Dev nD) (fd : Buf (Elt F) ((commSlot c).view.loc (t : Thread nD τ))) :
    (((commSlot c).view.loc (t : Thread nD τ) ↦[(commSlot c).view.set]{fullShare}
        ((commSlot c).view.write (Elt F) fd ((ctxRow t).view.read (Elt F) (ctxF m ρ c)) Finset.univ)) : sProp 𝕄) = recv1Pay m ρ t c :=
  landed t (commSlot c).view fd (commF m ρ t) _ (land_comm m ρ c t)
theorem landed_acc (c t : Dev nD) (fd : Buf (Elt F) ((accRow c).view.loc (t : Thread nD τ))) :
    (((accRow c).view.loc (t : Thread nD τ) ↦[(accRow c).view.set]{fullShare}
        ((accRow c).view.write (Elt F) fd (redM.view.read (Elt F) (redF m ρ c)) Finset.univ)) : sProp 𝕄) = accPts t c (accF m ρ) :=
  landed t (accRow c).view fd (accF m ρ) _ (land_acc m ρ c)

section Steps
variable (K : Dev nD × Fin 30 → ℕ)
  (c : Dev nD) (r : Fin 7) (l : List (GSem nD τ sig × ℕ))

/-- A SIGNAL at offset `r + 1`: the slot and the block of rows the receiver will fill here go with it. -/
theorem step_signal {α : Type} {Q : α → sProp 𝕄} {k : PUnit → Prog (TpuEff nD τ sig (Elt F) Λ₀ .tc) α} (n : Dev nD) (hn : n = fwd c r) {sem : Sem sig} (hsem : sem = barS) {k' : ℕ} (hk' : k' = 1) :
    iprop(records m ρ K ∗ owesE (F := F) c (dBar c r :: l) ∗ dutyTok ER (barCell (fwd c r)) 0 (rev r)
        ∗ (∃ f, commPts (F := F) c (fwd c r) f) ∗ (∃ f, accPts (F := F) c (fwd c r) f))
      ⊢ iprop((owesE (F := F) c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n, .tc) sem k') k) Q) := by
  subst hn hsem hk'
  unfold owesE
  iintro ⟨#HR, ⟨%W, HO⟩, Ht, Hc, Ha⟩ Hk
  ihave #HI := (records_at m ρ K (fwd c r, 0) _ (kcell_bar _)) $$ HR
  icases HI with ⟨#HI1, #HI2⟩
  iapply (Rounds.wp_signal 𝒱₀ ER (Rd m ρ) (c : Thread nD τ) none (dst := (fwd c r : Thread nD τ)) (κ := K (fwd c r, 0))
      (d := rev r) (by rw [duties_bar]; exact Finset.mem_univ _) (amount_bar m ρ (fwd c r) (rev r)) () (dues l) rfl)
    $$ [HO Ht Hc Ha]
  · isplitr; · iexact HI1
    isplitl [HO]; · iexact HO
    isplitl [Ht]; · iexact Ht
    isplitl [Hc Ha]
    · rw [payload_bar]; unfold barPay; rw [fwd_fwd_rev]
      isplitl [Hc]; · iexact Hc
      iexact Ha
    iexact HI2
  iintro HO
  iapply Hk
  iexists W; iexact HO

/-- A SEND of a block of the context. -/
theorem step_send1 {α : Type} {Q : α → sProp 𝕄} {k : PUnit → Prog (TpuEff nD τ sig (Elt F) Λ₀ .tc) α} (n : Dev nD) (hn : n = fwd c r)
    {src : Memref sig .tc .vmem S32x256 .bf16} (hsrcE : src = ctxRow (fwd c r))
    {dst : Memref sig (Dev.tc n : Thread nD τ).2.kind .vmem S32x256 .bf16} (hdstE : dst = commSlot c)
    {sS sD : DmaSem sig} (hS : sS = sSend1 r) (hD : sD = sRecv1 c)
    {hsc : dst.view.ref.isScScratch = false} {hsrc : src.view.WordExact} {hdst : dst.view.WordExact}
    {hsem : DmaTarget.Typed .vmem (.dma sD) (.remote (Dev.tc n : Thread nD τ) dst (.dma sS) hsc)} :
    iprop(records m ρ K ∗ owesE (F := F) c (d1 c r :: l) ∗ ctxPts c (fwd c r) (ctxF m ρ c) ∗ (∃ f, commPts (F := F) (fwd c r) c f)
        ∗ dutyTok ER (send1Cell c r) 0 0 ∗ dutyTok ER (recv1Cell (fwd c r) c) 0 0)
      ⊢ iprop(((cred (tallyAt (send1Cell c r) () N1) ∗ owesE (F := F) c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sD) hsrc hdst hsem) k) Q) := by
  subst hn hsrcE hdstE hS hD
  unfold owesE
  iintro ⟨#HR, ⟨%W, HO⟩, Hs, ⟨%fd, Hd⟩, Ht1, Ht2⟩ Hk
  ihave #HI := (records_at m ρ K (c, iSend1 r) _ (kcell_send1 _ _)) $$ HR
  icases HI with ⟨#HI1, #HI2⟩
  ihave #HJ := (records_at m ρ K (fwd c r, iRecv1 c) _ (kcell_recv1 _ _)) $$ HR
  icases HJ with ⟨#HJ1, #HJ2⟩
  iapply (Rounds.wp_send_pointsTo 𝒱₀ ER (Rd m ρ) (c : Thread nD τ) none (κ₁ := K (c, iSend1 r)) (κ₂ := K (fwd c r, iRecv1 c))
    (r₁ := 0) (r₂ := 0) (d₁ := 0) (d₂ := 0) (fs := ctxF m ρ c) (fd := fd)
    (by rw [duties_send1]; exact Finset.mem_singleton_self _) (by rw [duties_recv1 m ρ _ _ (fwd_ne c r).symm]; exact Finset.mem_singleton_self _)
    () () N1 rfl (amount_send1 m ρ c r 0) (amount_recv1 m ρ (fwd c r) c 0) (dues l) rfl (W := W)
    (by rw [payload_send1]; exact BI.Entails.refl _)
    (by rw [payload_recv1]; exact Entails.of_eq (landed_comm m ρ c (fwd c r) fd))) $$ [HO Hs Hd Ht1 Ht2]
  · isplitr; · iexact HI1
    isplitr; · iexact HJ1
    isplitl [Hs]; · unfold ctxPts; iexact Hs
    isplitl [Hd]; · unfold commPts; iexact Hd
    isplitl [HO]; · iexact HO
    isplitl [Ht1]; · iexact Ht1
    isplitr; · iexact HI2
    isplitl [Ht2]; · iexact Ht2
    iexact HJ2
  iintro ⟨Hc, HO⟩
  iapply Hk
  isplitl [Hc]; · iexact Hc
  iexists W; iexact HO

/-- A SEND of the finished rows. -/
theorem step_send2 {α : Type} {Q : α → sProp 𝕄} {k : PUnit → Prog (TpuEff nD τ sig (Elt F) Λ₀ .tc) α} (n : Dev nD) (hn : n = fwd c r)
    {src : Memref sig .tc .vmem S32x512 .bf16} (hsrcE : src = redM)
    {dst : Memref sig (Dev.tc n : Thread nD τ).2.kind .vmem S32x512 .bf16} (hdstE : dst = accRow c)
    {sS sD : DmaSem sig} (hS : sS = sSend2 r) (hD : sD = sRecv2 r)
    {hsc : dst.view.ref.isScScratch = false} {hsrc : src.view.WordExact} {hdst : dst.view.WordExact}
    {hsem : DmaTarget.Typed .vmem (.dma sD) (.remote (Dev.tc n : Thread nD τ) dst (.dma sS) hsc)} :
    iprop(records m ρ K ∗ owesE (F := F) c (d2 c r :: l) ∗ redPts c (redShare r) (redF m ρ c) ∗ (∃ f, accPts (F := F) (fwd c r) c f)
        ∗ dutyTok ER (send2Cell c r) 0 0 ∗ dutyTok ER (recv2Cell (fwd c r) r) 0 0)
      ⊢ iprop(((cred (tallyAt (send2Cell c r) () N2) ∗ owesE (F := F) c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sD) hsrc hdst hsem) k) Q) := by
  subst hn hsrcE hdstE hS hD
  unfold owesE
  iintro ⟨#HR, ⟨%W, HO⟩, Hs, ⟨%fd, Hd⟩, Ht1, Ht2⟩ Hk
  ihave #HI := (records_at m ρ K (c, iSend2 r) _ (kcell_send2 _ _)) $$ HR
  icases HI with ⟨#HI1, #HI2⟩
  ihave #HJ := (records_at m ρ K (fwd c r, iRecv2 r) _ (kcell_recv2 _ _)) $$ HR
  icases HJ with ⟨#HJ1, #HJ2⟩
  iapply (Rounds.wp_send_pointsTo 𝒱₀ ER (Rd m ρ) (c : Thread nD τ) none (κ₁ := K (c, iSend2 r)) (κ₂ := K (fwd c r, iRecv2 r))
    (r₁ := 0) (r₂ := 0) (d₁ := 0) (d₂ := 0) (q := redShare r) (fs := redF m ρ c) (fd := fd)
    (by rw [duties_send2]; exact Finset.mem_singleton_self _) (by rw [duties_recv2]; exact Finset.mem_singleton_self _)
    () () N2 rfl (amount_send2 m ρ c r 0) (amount_recv2 m ρ (fwd c r) r 0) (dues l) rfl (W := W)
    (by rw [payload_send2]; exact BI.Entails.refl _)
    (by rw [payload_recv2]; unfold recv2Pay; rw [bwd_fwd]; exact Entails.of_eq (landed_acc m ρ c (fwd c r) fd))) $$ [HO Hs Hd Ht1 Ht2]
  · isplitr; · iexact HI1
    isplitr; · iexact HJ1
    isplitl [Hs]; · unfold redPts; iexact Hs
    isplitl [Hd]; · unfold accPts; iexact Hd
    isplitl [HO]; · iexact HO
    isplitl [Ht1]; · iexact Ht1
    isplitr; · iexact HI2
    isplitl [Ht2]; · iexact Ht2
    iexact HJ2
  iintro ⟨Hc, HO⟩
  iapply Hk
  isplitl [Hc]; · iexact Hc
  iexists W; iexact HO

/-- A WAIT for the one transfer of a semaphore: its payload, and the semaphore back at zero. -/
theorem step_wait {α : Type} {Q : α → sProp 𝕄} {k : PUnit → Prog (TpuEff nD τ sig (Elt F) Λ₀ .tc) α} (i : Fin 30) (q : DmaSem sig) (hi : kcell (c, i) = ((c : Thread nD τ), .dma q)) (P : sProp 𝕄) (N lev : ℕ)
    (hd : (Rd (F := F) m ρ).duties ((c : Thread nD τ), .dma q) 0 = {0}) (ha : (Rd (F := F) m ρ).amount ((c : Thread nD τ), .dma q) 0 0 = N)
    (hp : (Rd (F := F) m ρ).payload ((c : Thread nD τ), .dma q) 0 0 = P) (hl : Above lev l) (hlev : lvAt (.dma q) ≤ lev)
    {sem : DmaSem sig} (hsem : sem = q) {s s' : Shape} {e e' : EltTy} {sp sp' : Space}
    {srcw : Memref sig .tc sp' s' e'} {dstw : Memref sig .tc sp s e} (hN : dstw.view.dmaCredit = N)
    {hsrc : srcw.view.WordExact} {hdst : dstw.view.WordExact} :
    iprop(records m ρ K ∗ levAts L lv ∗ owesE (F := F) c l ∗ cred (tallyAt ((c : Thread nD τ), .dma q) () N) ∗ atPos ER ((c : Thread nD τ), .dma q) 0 ∅ 0)
      ⊢ iprop(((owesE (F := F) c l ∗ P ∗ semVal ((c : Thread nD τ), .dma q) 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw dstw hsrc hdst) k) Q) := by
  subst hsem hN
  unfold owesE
  iintro ⟨#HR, #Hlev, ⟨%W, HO⟩, Hc, Hat⟩ Hk
  ihave #HI := (records_at m ρ K (c, i) _ hi) $$ HR
  icases HI with ⟨#HI1, #HI2⟩
  iapply (Rounds.wp_wait_rest_token 𝒱₀ ER (Rd m ρ) (c : Thread nD τ) none (κ := K (c, i))
      (wpE_waitDma2_eq 𝒱₀ (c : Thread nD τ) none Set.univ) (Set.mem_univ _) () (O := dues l) (W := W) (R := 0) (m := 0) (T := ∅)
      (by rw [Nat.zero_add, expect_one m ρ _ _ hd ha])) $$ [Hc HO Hat]
  · isplitr; · iexact HI1
    isplitl [Hc]; · iexact Hc
    isplitl [HO]; · iexact HO
    isplitr; · iapply (mayWait c _ lev l hl hlev); iexact Hlev
    iexact Hat
  iintro ⟨HO, Hat, -, Hpay⟩
  ihave Hp := (Entails.of_eq (rest_one m ρ _ P hd hp)) $$ Hpay
  imod (Rounds.cell_close ER (Rd m ρ) (Set.mem_univ (K (c, i))) (fun h => h) (R := 0 + 1) (fun r hr => duties_later m ρ _ r hr)) $$ [Hat] with Hz
  · isplitr; · iexact HI1
    iexact Hat
  iapply Hk
  isplitl [HO]; · iexists _; iexact HO
  isplitl [Hp]; · iexact Hp
  iexact Hz

/-- The WAIT at the barrier: every neighbour's pieces. -/
theorem step_barrier {α : Type} {Q : α → sProp 𝕄} {k : PUnit → Prog (TpuEff nD τ sig (Elt F) Λ₀ .tc) α} (lev : ℕ) (hl : Above lev l) (hlev : 1 ≤ lev) {sem : Sem sig} (hsem : sem = barS) {k' : ℕ} (hk' : k' = 7) :
    iprop(records m ρ K ∗ levAts L lv ∗ owesE (F := F) c l ∗ cred (tallyAt (barCell c) () 7) ∗ atPos ER (barCell c) 0 ∅ 0)
      ⊢ iprop(((owesE (F := F) c l ∗ (bigSep Finset.univ fun r => barPay (F := F) c r) ∗ semVal (barCell c) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sem k') k) Q) := by
  subst hsem hk'
  unfold owesE
  iintro ⟨#HR, #Hlev, ⟨%W, HO⟩, Hc, Hat⟩ Hk
  ihave #HI := (records_at m ρ K (c, 0) _ (kcell_bar c)) $$ HR
  icases HI with ⟨#HI1, #HI2⟩
  iapply (Rounds.wp_wait_rest_token 𝒱₀ ER (Rd m ρ) (c : Thread nD τ) none (κ := K (c, 0))
      (wpE_semWait_eq 𝒱₀ (c : Thread nD τ) none Set.univ) (Set.mem_univ _) () (O := dues l) (W := W) (R := 0) (m := 0) (T := ∅)
      (by rw [Nat.zero_add, expect_bar])) $$ [Hc HO Hat]
  · isplitr; · iexact HI1
    isplitl [Hc]; · iexact Hc
    isplitl [HO]; · iexact HO
    isplitr; · iapply (mayWait c (.reg barS) lev l hl hlev); iexact Hlev
    iexact Hat
  iintro ⟨HO, Hat, -, Hpay⟩
  ihave Hp := (Entails.of_eq (rest_bar m ρ c)) $$ Hpay
  imod (Rounds.cell_close ER (Rd m ρ) (Set.mem_univ (K (c, 0))) (fun h => h) (R := 0 + 1) (fun r hr => duties_later m ρ _ r hr)) $$ [Hat] with Hz
  · isplitr; · iexact HI1
    iexact Hat
  iapply Hk
  isplitl [HO]; · iexists _; iexact HO
  isplitl [Hp]; · iexact Hp
  iexact Hz

/-- The semaphore for a transfer to oneself closes unused. -/
theorem close_self {E : Set ℕ} (hE : K (c, iRecv1 c) ∈ E) :
    iprop(records m ρ K ∗ atPos ER (recv1Cell c c) 0 ∅ 0) ⊢ iprop(|={E}=> semVal (recv1Cell c c) 0) := by
  iintro ⟨#HR, Hat⟩
  ihave #HI := (records_at m ρ K (c, iRecv1 c) _ (kcell_recv1 c c)) $$ HR
  icases HI with ⟨#HI1, #HI2⟩
  iapply (Rounds.cell_close ER (Rd m ρ) hE (fun h => h) (R := 0) (fun r hr => duties_self m ρ c r hr))
  isplitr; · iexact HI1
  iexact Hat

/-- A wait for a local copy. -/
theorem step_local {α : Type} {Q : α → sProp 𝕄} {k : PUnit → Prog (TpuEff nD τ sig (Elt F) Λ₀ .tc) α} (lev : ℕ) (hl : Above lev l) {D : sProp 𝕄} {N : ℕ} {sem : DmaSem sig} (hlev : lvAt (.dma sem) ≤ lev) {s s' : Shape} {e e' : EltTy} {sp sp' : Space}
    {srcw : Memref sig .tc sp' s' e'} {dstw : Memref sig .tc sp s e} (hN : dstw.view.dmaCredit = N)
    {hsrc : srcw.view.WordExact} {hdst : dstw.view.WordExact} :
    iprop(levAts L lv ∗ owesE (F := F) c l ∗ Transfers.Flight EC (c : Thread nD τ) (.dma sem) () N D)
      ⊢ iprop(((owesE (F := F) c l ∗ D ∗ semVal ((c : Thread nD τ), .dma sem) 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw dstw hsrc hdst) k) Q) := by
  unfold owesE
  iintro ⟨#Hlev, ⟨%W, HO⟩, Hf⟩ Hk
  iapply (Transfers.wp_waitLocalO EC 𝒱₀ (c : Thread nD τ) none () hN (O := dues l) (W := W)) $$ [HO Hf]
  · isplitl [Hf]; · iexact Hf
    isplitl [HO]; · iexact HO
    iapply (mayWait c _ lev l hl hlev); iexact Hlev
  iintro ⟨HD, Hz, HO⟩
  iapply Hk
  isplitl [HO]; · iexists _; iexact HO
  isplitl [HD]; · iexact HD
  iexact Hz

end Steps

end Cert.KernelIdeal.Run

end
-- ==== Proof.KParts.lean ====
/-
Bundles of what one step of the exchange takes and gives, and the steps stated over them: for every device and every offset.
-/
module

public import proofs.«01_k».proof.Proof.KSteps

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pointwise

variable {F : FTy → Type} [FloatOps F] [Named F]

local notation "𝕄" => MT nD τ sig Unit (Elt F) ℕ UU ℕ

variable (m : (ℓ : Loc nD τ sig) → Buf (Elt F) ℓ) (ρ : Dev nD → PrngReg)

/-- A run of device `c`'s program. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What device `c` holds of a memref: its elements, with a share. -/
abbrev pts (c : Dev nD) {sp : Space} {s : Shape} {e : EltTy} (M : Memref sig .tc sp s e) (q : PosShare TreeShare)
    (f : Buf (Elt F) (M.view.loc (c : Thread nD τ))) : sProp 𝕄 :=
  M.view.loc (c : Thread nD τ) ↦[M.view.set]{q} f

/-! ## Going round the ring, and the order of the seven offsets -/

/-- A family over the devices, from one of them on. -/
theorem around_fwd (c : Dev nD) (Φ : Dev nD → sProp 𝕄) :
    bigSep Finset.univ Φ = iprop(Φ c ∗ bigSep Finset.univ (fun r : Fin 7 => Φ (fwd c r))) := by
  have h : (Finset.univ : Finset (Dev nD)) = insert c (Finset.univ.map ⟨fwd c, fwd_inj c⟩) := by revert c; decide +kernel
  have h' : c ∉ Finset.univ.map ⟨fwd c, fwd_inj c⟩ := by revert c; decide +kernel
  rw [h, bigSep_insert h', bigSep_map]
  rfl
/-- The same, the other way round. -/
theorem around_bwd (c : Dev nD) (Φ : Dev nD → sProp 𝕄) :
    bigSep Finset.univ Φ = iprop(Φ c ∗ bigSep Finset.univ (fun r : Fin 7 => Φ (bwd c r))) := by
  have h : (Finset.univ : Finset (Dev nD)) = insert c (Finset.univ.map ⟨bwd c, bwd_inj c⟩) := by revert c; decide +kernel
  have h' : c ∉ Finset.univ.map ⟨bwd c, bwd_inj c⟩ := by revert c; decide +kernel
  rw [h, bigSep_insert h', bigSep_map]
  rfl
/-- The seven offsets, in the program's order. -/
theorem seven (Φ : Fin 7 → sProp 𝕄) :
    bigSep Finset.univ Φ = iprop(Φ 5 ∗ Φ 1 ∗ Φ 4 ∗ Φ 6 ∗ Φ 0 ∗ Φ 2 ∗ Φ 3) := by
  rw [bigSep_univ_eq_bigSepL [5, 1, 4, 6, 0, 2, 3] (by decide) (by decide)]
  simp only [bigSepL_cons_cons, bigSepL_singleton]
  rfl

/-! ## What a step at one offset takes and gives -/

def sigB (c : Dev nD) (r : Fin 7) : sProp 𝕄 :=
  iprop(dutyTok ER (barCell (fwd c r)) 0 (rev r) ∗ (∃ f, commPts (F := F) c (fwd c r) f) ∗ (∃ f, accPts (F := F) c (fwd c r) f))
def tok1B (c : Dev nD) (r : Fin 7) : sProp 𝕄 :=
  iprop(dutyTok ER (send1Cell c r) 0 0 ∗ dutyTok ER (recv1Cell (fwd c r) c) 0 0)
def tok2B (c : Dev nD) (r : Fin 7) : sProp 𝕄 :=
  iprop(dutyTok ER (send2Cell c r) 0 0 ∗ dutyTok ER (recv2Cell (fwd c r) r) 0 0)
/-- The block of rows device `fwd c r` lent for device `c`'s result. -/
def lent (c : Dev nD) (r : Fin 7) : sProp 𝕄 := iprop(∃ f, accPts (F := F) (fwd c r) c f)
def s1pre (c : Dev nD) (r : Fin 7) : sProp 𝕄 := iprop(ctxPts c (fwd c r) (ctxF m ρ c) ∗ barPay c r ∗ tok1B c r)
def s1post (c : Dev nD) (r : Fin 7) : sProp 𝕄 := iprop(cred (tallyAt (send1Cell c r) () N1) ∗ lent c r)
def s2pre (c : Dev nD) (r : Fin 7) : sProp 𝕄 := iprop(redPts c (redShare r) (redF m ρ c) ∗ lent c r ∗ tok2B c r)
def s2post (c : Dev nD) (r : Fin 7) : sProp 𝕄 := cred (tallyAt (send2Cell c r) () N2)
def w1pre (c : Dev nD) (r : Fin 7) : sProp 𝕄 :=
  iprop(cred (tallyAt (recv1Cell c (bwd c r)) () N1) ∗ atPos ER (recv1Cell c (bwd c r)) 0 ∅ 0)
def w1post (c : Dev nD) (r : Fin 7) : sProp 𝕄 := iprop(commPts c (bwd c r) (commF m ρ c) ∗ semVal (recv1Cell c (bwd c r)) 0)
def w2pre (c : Dev nD) (r : Fin 7) : sProp 𝕄 :=
  iprop(cred (tallyAt (recv2Cell c r) () N2) ∗ atPos ER (recv2Cell c r) 0 ∅ 0)
def w2post (c : Dev nD) (r : Fin 7) : sProp 𝕄 := iprop(accPts c (bwd c r) (accF m ρ) ∗ semVal (recv2Cell c r) 0)
def b1pre (c : Dev nD) (r : Fin 7) : sProp 𝕄 :=
  iprop(cred (tallyAt (send1Cell c r) () N1) ∗ atPos ER (send1Cell c r) 0 ∅ 0)
def b1post (c : Dev nD) (r : Fin 7) : sProp 𝕄 := iprop(ctxPts c (fwd c r) (ctxF m ρ c) ∗ semVal (send1Cell c r) 0)
def b2pre (c : Dev nD) (r : Fin 7) : sProp 𝕄 :=
  iprop(cred (tallyAt (send2Cell c r) () N2) ∗ atPos ER (send2Cell c r) 0 ∅ 0)
def b2post (c : Dev nD) (r : Fin 7) : sProp 𝕄 := iprop(redPts c (redShare r) (redF m ρ c) ∗ semVal (send2Cell c r) 0)

/-! ## Semaphores of the exchange, as the program writes them -/

/-- The semaphores of the local copies. -/
def sW (j : Fin 3) : DmaSem sig := ⟨2 + j.val, by have h : sig.nDmaSem = 34 := rfl; omega⟩
theorem semW (j : Fin 3) (inb) : ((cc0_scratch9.slice (Rect.unit (s := S3) ![j.val] S1.size inb)).squeeze S_ squeezes_S1_S_).sem = sW j := by
  revert j; decide +kernel
theorem semS1 (r : Fin 7) (inb) : ((cc0_scratch10.slice (Rect.unit (s := S7) ![r.val] S1.size inb)).squeeze S_ squeezes_S1_S_).sem = sSend1 r := by
  revert r; decide +kernel
theorem semR1 (j : Fin 8) {off : Fin 1 → ℕ} (h : off = ![j.val]) (inb) : ((cc0_scratch11.slice (Rect.unit (s := S8) off S1.size inb)).squeeze S_ squeezes_S1_S_).sem = sRecv1 j := by
  subst h; revert j; decide +kernel
theorem semS2 (r : Fin 7) (inb) : ((cc0_scratch12.slice (Rect.unit (s := S7) ![r.val] S1.size inb)).squeeze S_ squeezes_S1_S_).sem = sSend2 r := by
  revert r; decide +kernel
theorem semR2 (r : Fin 7) (inb) : ((cc0_scratch13.slice (Rect.unit (s := S7) ![r.val] S1.size inb)).squeeze S_ squeezes_S1_S_).sem = sRecv2 r := by
  revert r; decide +kernel

/-- The offset of the semaphore the block from `bwd c r` signals. -/
theorem off7_at (c : Dev nD) (r : Fin 7) : k0_off7 c (BitVec.ofNat 32 (1 + r.val)) = ![(bwd c r).val] := by
  revert c r; decide +kernel
/-- The offset of the block of the context that goes to `fwd c r`. -/
theorem off6_at (c : Dev nD) (r : Fin 7) : k0_off6 c (BitVec.ofNat 32 (1 + r.val)) = ![32 * (fwd c r).val, 0] := by
  rw [k0_off6_eq]
  exact congrArg (fun n => ![32 * n, 0]) (by revert c r; decide +kernel)

/-- What a transfer of a block credits, whichever buffer it lands in. -/
theorem credit1 (M : Memref sig .tc .vmem S32x256 .bf16) : M.view.dmaCredit = N1 := rfl
theorem credit2 (M : Memref sig .tc .vmem S32x512 .bf16) : M.view.dmaCredit = N2 := rfl

section Wrapped
variable (K : Dev nD × Fin 30 → ℕ) (c : Dev nD) (r : Fin 7) (l : List (GSem nD τ sig × ℕ))

theorem go_signal {α : Type} {Q : α → sProp 𝕄} {k : PUnit → Prog (TpuEff nD τ sig (Elt F) Λ₀ .tc) α} {n : Dev nD} (hn : n.val = (fwd c r).val) {sem : Sem sig} (hsem : sem = barS) {k' : ℕ} (hk' : k' = 1) :
    iprop(records m ρ K ∗ owesE (F := F) c (dBar c r :: l) ∗ sigB (F := F) c r)
      ⊢ iprop((owesE (F := F) c l -∗ run c (k ⟨⟩) Q) -∗ run c (.op (.semSignal (n, .tc) sem k') k) Q) := by
  unfold sigB; exact step_signal m ρ K c r l n (Fin.ext hn) hsem hk'

/-- A send of a block of the context, from its bundle. -/
theorem go_send1 {α : Type} {Q : α → sProp 𝕄} {k : PUnit → Prog (TpuEff nD τ sig (Elt F) Λ₀ .tc) α} {n : Dev nD} (hn : n.val = (fwd c r).val)
    {src : Memref sig .tc .vmem S32x256 .bf16} (hsrcE : src = ctxRow (fwd c r))
    {dst : Memref sig (Dev.tc n : Thread nD τ).2.kind .vmem S32x256 .bf16} (hdstE : dst = commSlot c)
    {sS sD : DmaSem sig} (hS : sS = sSend1 r) (hD : sD = sRecv1 c)
    {hsc : dst.view.ref.isScScratch = false} {hsrc : src.view.WordExact} {hdst : dst.view.WordExact}
    {hsem : DmaTarget.Typed .vmem (.dma sD) (.remote (Dev.tc n : Thread nD τ) dst (.dma sS) hsc)} :
    iprop(records m ρ K ∗ owesE (F := F) c (d1 c r :: l) ∗ s1pre m ρ c r)
      ⊢ iprop(((owesE (F := F) c l ∗ s1post (F := F) c r) -∗ run c (k ⟨⟩) Q)
          -∗ run c (.op (.enqueueDma src (.remote (Dev.tc n : Thread nD τ) dst (.dma sS) hsc) (.dma sD) hsrc hdst hsem) k) Q) := by
  unfold s1pre s1post tok1B barPay lent
  iintro ⟨#HR, HO, Hx, ⟨Hb, Ha⟩, Ht1, Ht2⟩ Hk
  iapply (step_send1 m ρ K c r l n (Fin.ext hn) hsrcE hdstE hS hD) $$ [HO Hx Hb Ht1 Ht2]
  · isplitr; · iexact HR
    isplitl [HO]; · iexact HO
    isplitl [Hx]; · iexact Hx
    isplitl [Hb]; · iexact Hb
    isplitl [Ht1]; · iexact Ht1
    iexact Ht2
  iintro ⟨Hc, HO⟩
  iapply Hk
  isplitl [HO]; · iexact HO
  isplitl [Hc]; · iexact Hc
  iexact Ha

/-- A send of the finished rows, from its bundle. -/
theorem go_send2 {α : Type} {Q : α → sProp 𝕄} {k : PUnit → Prog (TpuEff nD τ sig (Elt F) Λ₀ .tc) α} {n : Dev nD} (hn : n.val = (fwd c r).val)
    {src : Memref sig .tc .vmem S32x512 .bf16} (hsrcE : src = redM)
    {dst : Memref sig (Dev.tc n : Thread nD τ).2.kind .vmem S32x512 .bf16} (hdstE : dst = accRow c)
    {sS sD : DmaSem sig} (hS : sS = sSend2 r) (hD : sD = sRecv2 r)
    {hsc : dst.view.ref.isScScratch = false} {hsrc : src.view.WordExact} {hdst : dst.view.WordExact}
    {hsem : DmaTarget.Typed .vmem (.dma sD) (.remote (Dev.tc n : Thread nD τ) dst (.dma sS) hsc)} :
    iprop(records m ρ K ∗ owesE (F := F) c (d2 c r :: l) ∗ s2pre m ρ c r)
      ⊢ iprop(((owesE (F := F) c l ∗ s2post (F := F) c r) -∗ run c (k ⟨⟩) Q)
          -∗ run c (.op (.enqueueDma src (.remote (Dev.tc n : Thread nD τ) dst (.dma sS) hsc) (.dma sD) hsrc hdst hsem) k) Q) := by
  unfold s2pre s2post tok2B lent
  iintro ⟨#HR, HO, Hx, Ha, Ht1, Ht2⟩ Hk
  iapply (step_send2 m ρ K c r l n (Fin.ext hn) hsrcE hdstE hS hD) $$ [HO Hx Ha Ht1 Ht2]
  · isplitr; · iexact HR
    isplitl [HO]; · iexact HO
    isplitl [Hx]; · iexact Hx
    isplitl [Ha]; · iexact Ha
    isplitl [Ht1]; · iexact Ht1
    iexact Ht2
  iintro ⟨Hc, HO⟩
  iapply Hk
  isplitl [HO]; · iexact HO
  iexact Hc

/-- The wait `w1` at one offset, from its bundle. -/
theorem go_w1 {α : Type} {Q : α → sProp 𝕄} {k : PUnit → Prog (TpuEff nD τ sig (Elt F) Λ₀ .tc) α} (hl : Above 2 l)
    {sem : DmaSem sig} (hsem : sem = sRecv1 (bwd c r)) {s' : Shape} {e' : EltTy} {sp' : Space}
    {srcw : Memref sig .tc sp' s' e'} {dstw : Memref sig .tc .vmem S32x256 .bf16}
    {hsrc : srcw.view.WordExact} {hdst : dstw.view.WordExact} :
    iprop(records m ρ K ∗ levAts L lv ∗ owesE (F := F) c l ∗ w1pre (F := F) c r)
      ⊢ iprop(((owesE (F := F) c l ∗ w1post m ρ c r) -∗ run c (k ⟨⟩) Q)
          -∗ run c (.op (.waitDma2 sem srcw dstw hsrc hdst) k) Q) := by
  unfold w1pre w1post
  exact step_wait m ρ K c l (iRecv1 (bwd c r)) (sRecv1 (bwd c r)) (kcell_recv1 _ _) _ N1 2 (duties_recv1 m ρ c (bwd c r) (bwd_ne c r)) (amount_recv1 m ρ _ _ 0) (payload_recv1 m ρ _ _ 0) hl
    (by rw [lvAt_recv1] <;> decide) hsem (credit1 dstw)

/-- The wait `w2` at one offset, from its bundle. -/
theorem go_w2 {α : Type} {Q : α → sProp 𝕄} {k : PUnit → Prog (TpuEff nD τ sig (Elt F) Λ₀ .tc) α} (hl : Above 3 l)
    {sem : DmaSem sig} (hsem : sem = sRecv2 r) {s' : Shape} {e' : EltTy} {sp' : Space}
    {srcw : Memref sig .tc sp' s' e'} {dstw : Memref sig .tc .vmem S32x512 .bf16}
    {hsrc : srcw.view.WordExact} {hdst : dstw.view.WordExact} :
    iprop(records m ρ K ∗ levAts L lv ∗ owesE (F := F) c l ∗ w2pre (F := F) c r)
      ⊢ iprop(((owesE (F := F) c l ∗ w2post m ρ c r) -∗ run c (k ⟨⟩) Q)
          -∗ run c (.op (.waitDma2 sem srcw dstw hsrc hdst) k) Q) := by
  unfold w2pre w2post
  exact step_wait m ρ K c l (iRecv2 r) (sRecv2 r) (kcell_recv2 _ _) _ N2 3 (duties_recv2 m ρ c r) (amount_recv2 m ρ _ _ 0) (payload_recv2 m ρ _ _ 0) hl
    (by rw [lvAt_recv2] <;> decide) hsem (credit2 dstw)

/-- The wait `b1` at one offset, from its bundle. -/
theorem go_b1 {α : Type} {Q : α → sProp 𝕄} {k : PUnit → Prog (TpuEff nD τ sig (Elt F) Λ₀ .tc) α} (hl : Above 3 l)
    {sem : DmaSem sig} (hsem : sem = sSend1 r) {s' : Shape} {e' : EltTy} {sp' : Space}
    {srcw : Memref sig .tc sp' s' e'} {dstw : Memref sig .tc .vmem S32x256 .bf16}
    {hsrc : srcw.view.WordExact} {hdst : dstw.view.WordExact} :
    iprop(records m ρ K ∗ levAts L lv ∗ owesE (F := F) c l ∗ b1pre (F := F) c r)
      ⊢ iprop(((owesE (F := F) c l ∗ b1post m ρ c r) -∗ run c (k ⟨⟩) Q)
          -∗ run c (.op (.waitDma2 sem srcw dstw hsrc hdst) k) Q) := by
  unfold b1pre b1post
  exact step_wait m ρ K c l (iSend1 r) (sSend1 r) (kcell_send1 _ _) _ N1 3 (duties_send1 m ρ c r) (amount_send1 m ρ _ _ 0) (payload_send1 m ρ _ _ 0) hl
    (by rw [lvAt_send1] <;> decide) hsem (credit1 dstw)

/-- The wait `b2` at one offset, from its bundle. -/
theorem go_b2 {α : Type} {Q : α → sProp 𝕄} {k : PUnit → Prog (TpuEff nD τ sig (Elt F) Λ₀ .tc) α} (hl : Above 3 l)
    {sem : DmaSem sig} (hsem : sem = sSend2 r) {s' : Shape} {e' : EltTy} {sp' : Space}
    {srcw : Memref sig .tc sp' s' e'} {dstw : Memref sig .tc .vmem S32x512 .bf16}
    {hsrc : srcw.view.WordExact} {hdst : dstw.view.WordExact} :
    iprop(records m ρ K ∗ levAts L lv ∗ owesE (F := F) c l ∗ b2pre (F := F) c r)
      ⊢ iprop(((owesE (F := F) c l ∗ b2post m ρ c r) -∗ run c (k ⟨⟩) Q)
          -∗ run c (.op (.waitDma2 sem srcw dstw hsrc hdst) k) Q) := by
  unfold b2pre b2post
  exact step_wait m ρ K c l (iSend2 r) (sSend2 r) (kcell_send2 _ _) _ N2 3 (duties_send2 m ρ c r) (amount_send2 m ρ _ _ 0) (payload_send2 m ρ _ _ 0) hl
    (by rw [lvAt_send2] <;> decide) hsem (credit2 dstw)

/-- A program at its end. -/
theorem go_ret {α : Type} {Q : α → sProp 𝕄} (a : α) : Q a ⊢ run c (.ret a) Q := by
  show Q a ⊢ wp frame (wpE (defs₀ (F := F)) 𝒱₀ (c : Thread nD τ) none) Set.univ (.ret a) Q
  rw [wp_ret]; exact fupd_intro

/-- A LOCAL COPY begins: it will land whatever reads as its source does. -/
theorem go_copy {α : Type} {Q : α → sProp 𝕄} {k : PUnit → Prog (TpuEff nD τ sig (Elt F) Λ₀ .tc) α}
    {sp sp' : Space} {s : Shape} {e : EltTy} {src : Memref sig .tc sp s e} {dst : Memref sig .tc sp' s e} {q : PosShare TreeShare}
    {fs : Buf (Elt F) (src.view.loc (c : Thread nD τ))} (g : Buf (Elt F) (dst.view.loc (c : Thread nD τ)))
    (hg : dst.view.read (Elt F) g = src.view.read (Elt F) fs) {sem q' : DmaSem sig} (hsem : sem = q') (hs : 0 < s.numel)
    {hsrc : src.view.WordExact} {hdst : dst.view.WordExact} {ht : DmaTarget.Typed (nD := nD) sp (.dma sem) (.here (p := (c : Thread nD τ).2) dst)} :
    iprop(pts c src q fs ∗ (∃ f, pts (F := F) c dst fullShare f) ∗ semVal ((c : Thread nD τ), .dma q') 0)
      ⊢ iprop((Transfers.Flight EC (c : Thread nD τ) (.dma q') () dst.view.dmaCredit iprop(pts c dst fullShare g ∗ pts c src q fs) -∗ run c (k ⟨⟩) Q)
          -∗ run c (.op (.enqueueDma src (.here dst) (.dma sem) hsrc hdst ht) k) Q) := by
  subst hsem
  iintro ⟨Hs, ⟨%f, Hd⟩, Hv⟩ Hk
  iapply (Transfers.wp_dmaLocal EC 𝒱₀ (c : Thread nD τ) none () dst.view.dmaCredit rfl (View.dmaCredit_pos _ hs) (Finset.Subset.refl _)) $$ [Hs Hd Hv]
  · isplitl [Hs]; · iexact Hs
    isplitl [Hd]; · iexact Hd
    iexact Hv
  rw [landed c dst.view f g _ hg]
  iexact Hk

/-- A LOAD of what is held. -/
theorem go_load {α : Type} {Q : α → sProp 𝕄} {sp : CoreSpace} {s : Shape} {e : EltTy} {M : Memref sig .tc sp s e} {R : LoadRect s} {hl : M.view.LoadsAt R}
    {k : (R.shape.Idx → Elt F e) → Prog (TpuEff nD τ sig (Elt F) Λ₀ .tc) α} {q : PosShare TreeShare}
    {S : Finset (Idx (M.view.loc (c : Thread nD τ)))} {f : Buf (Elt F) (M.view.loc (c : Thread nD τ))}
    (hS : M.view.setOn R.set ⊆ S) (w : R.shape.Idx → Elt F e) (hw : M.view.readAt (Elt F) R f = w) :
    iprop(M.view.loc (c : Thread nD τ) ↦[S]{q} f)
      ⊢ iprop(((M.view.loc (c : Thread nD τ) ↦[S]{q} f) -∗ run c (k w) Q) -∗ run c (.op (.load M R hl) k) Q) := by
  subst hw
  exact wp_load 𝒱₀ (c : Thread nD τ) none Set.univ hS

/-- A STORE over what is held: the piece then holds whatever reads as what was stored. -/
theorem go_store {α : Type} {Q : α → sProp 𝕄} {sp : CoreSpace} {s : Shape} {e : EltTy} (M : Memref sig .tc sp s e) (R : Rect s) {w : R.shape.Idx → Elt F e}
    {hx : (M.access R).Stores Finset.univ} {hm : Finset.univ = Finset.univ ∨ ∀ a, R.stride a = 1}
    {k : PUnit → Prog (TpuEff nD τ sig (Elt F) Λ₀ .tc) α}
    (S : Finset (Idx (M.view.loc (c : Thread nD τ)))) (hS : (M.access R).set = S) (g : Buf (Elt F) (M.view.loc (c : Thread nD τ)))
    (hg : (M.access R).read (Elt F) g = w) :
    iprop(∃ f, M.view.loc (c : Thread nD τ) ↦[S]{fullShare} f)
      ⊢ iprop(((M.view.loc (c : Thread nD τ) ↦[S]{fullShare} g) -∗ run c (k ⟨⟩) Q) -∗ run c (.op (.store M R w Finset.univ hx hm) k) Q) := by
  subst hS
  iintro ⟨%f, H⟩ Hk
  iapply (wp_store 𝒱₀ (c : Thread nD τ) none Set.univ (m := M) (r := R) (S := (M.access R).set) (f := f) (Finset.Subset.refl _)) $$ [H]
  · iexact H
  rw [landed c (M.access R) f g w hg]
  iexact Hk

/-- The wait for a local copy. -/
theorem go_local {α : Type} {Q : α → sProp 𝕄} {k : PUnit → Prog (TpuEff nD τ sig (Elt F) Λ₀ .tc) α} (lev : ℕ) (hl : Above lev l) {D : sProp 𝕄} {N : ℕ} {sem q' : DmaSem sig} (hsem : sem = q')
    (hlev : lvAt (.dma q') ≤ lev) {s s' : Shape} {e e' : EltTy} {sp sp' : Space}
    {srcw : Memref sig .tc sp' s' e'} {dstw : Memref sig .tc sp s e} (hN : dstw.view.dmaCredit = N)
    {hsrc : srcw.view.WordExact} {hdst : dstw.view.WordExact} :
    iprop(levAts L lv ∗ owesE (F := F) c l ∗ Transfers.Flight EC (c : Thread nD τ) (.dma q') () N D)
      ⊢ iprop(((owesE (F := F) c l ∗ D ∗ semVal ((c : Thread nD τ), .dma q') 0) -∗ run c (k ⟨⟩) Q)
          -∗ run c (.op (.waitDma2 sem srcw dstw hsrc hdst) k) Q) := by
  subst hsem
  exact step_local c l lev hl hlev hN

end Wrapped

/-! ## The local copies -/

/-- All of a buffer, with any contents. -/
abbrev anyPts (c : Dev nD) {sp : Space} {s : Shape} {e : EltTy} (M : Memref sig .tc sp s e) : sProp 𝕄 := iprop(∃ f, pts (F := F) c M fullShare f)
/-- Device `c`'s columns of the query projection, in its own copy of it. -/
abbrev wqM (c : Dev nD) : Memref sig .tc .hbm S512x256 .f32 :=
  (Memref.whole main_arg1).slice (Rect.unit (s := S512x2048) (k0_off1 c) S512x256.size (k0_off1_inb c)) (fun _ => rfl)
/-- The copy of the input in flight, of the query columns, of the output projection, of the result. -/
def flX (c : Dev nD) : sProp 𝕄 := Transfers.Flight EC (c : Thread nD τ) (.dma (sW 2)) () (Memref.whole cc0_scratch3 : Memref sig .tc _ _ _).view.dmaCredit
  iprop(pts c (Memref.whole cc0_scratch3) fullShare (xAt m c) ∗ pts c (Memref.whole main_arg0) fullShare (m ((c : Thread nD τ).loc main_arg0)))
def flQ (c : Dev nD) : sProp 𝕄 := Transfers.Flight EC (c : Thread nD τ) (.dma (sW 0)) () (Memref.whole cc0_scratch0 : Memref sig .tc _ _ _).view.dmaCredit
  iprop(pts c (Memref.whole cc0_scratch0) fullShare (wqAt m c) ∗ pts c (wqM c) fullShare (m ((c : Thread nD τ).loc main_arg1)))
def flO (c : Dev nD) : sProp 𝕄 := Transfers.Flight EC (c : Thread nD τ) (.dma (sW 1)) () (Memref.whole cc0_scratch1 : Memref sig .tc _ _ _).view.dmaCredit
  iprop(pts c (Memref.whole cc0_scratch1) fullShare (woAt m c) ∗ pts c (Memref.whole main_arg4) fullShare (m ((c : Thread nD τ).loc main_arg4)))
def flR (c : Dev nD) : sProp 𝕄 := Transfers.Flight EC (c : Thread nD τ) (.dma (sW 2)) () (Memref.whole main_v1 : Memref sig .tc _ _ _).view.dmaCredit
  iprop(pts c (Memref.whole main_v1) fullShare (outF m ρ) ∗ pts c (Memref.whole cc0_scratch4) fullShare (outF m ρ))
theorem lv_sW (j : Fin 3) : lvAt (.dma (sW j)) = 0 := by revert j; decide +kernel

theorem hx_copy (c : Dev nD) : (Memref.whole cc0_scratch3 : Memref sig .tc _ _ _).view.read (Elt F) (xAt m c) = (Memref.whole main_arg0 : Memref sig .tc _ _ _).view.read (Elt F) (m ((c : Thread nD τ).loc main_arg0)) := by
  unfold xAt; rfl
theorem hq_copy (c : Dev nD) : (Memref.whole cc0_scratch0 : Memref sig .tc _ _ _).view.read (Elt F) (wqAt m c) = (wqM c).view.read (Elt F) (m ((c : Thread nD τ).loc main_arg1)) := by
  unfold wqAt; rfl
theorem ho_copy (c : Dev nD) : (Memref.whole cc0_scratch1 : Memref sig .tc _ _ _).view.read (Elt F) (woAt m c) = (Memref.whole main_arg4 : Memref sig .tc _ _ _).view.read (Elt F) (m ((c : Thread nD τ).loc main_arg4)) := by
  unfold woAt; rfl
theorem hr_copy (c : Dev nD) : (Memref.whole main_v1 : Memref sig .tc _ _ _).view.read (Elt F) (outF m ρ) = (Memref.whole cc0_scratch4 : Memref sig .tc _ _ _).view.read (Elt F) (outF m ρ) := rfl

theorem z2 : (![0, 0] : Fin 2 → ℕ) = fun _ => 0 := by decide
theorem z3 : (![0, 0, 0] : Fin 3 → ℕ) = fun _ => 0 := by decide
theorem z4 : (![0, 0, 0, 0] : Fin 4 → ℕ) = fun _ => 0 := by decide
/-- What a rectangle of a view reads is among the view's elements. -/
theorem in_view {sp : Space} {s : Shape} {e : EltTy} (v : View sig .tc sp s e) (S : Finset s.Idx) : v.setOn S ⊆ v.set :=
  Finset.map_subset_map.2 (Finset.subset_univ _)
theorem n_x : 0 < S2x128x512.numel := by decide +kernel
theorem n_q : 0 < S512x256.numel := by decide +kernel
theorem n_o : 0 < S2048x512.numel := by decide +kernel

end Cert.KernelIdeal.Run

end
-- ==== Proof.KRunA.lean ====
/-
The first two parts of the kernel's body: local copies begin, the neighbours are signalled, the input is read.
-/
module

public import proofs.«01_k».proof.Proof.KParts

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pointwise

variable {F : FTy → Type} [FloatOps F] [Named F]

local notation "𝕄" => MT nD τ sig Unit (Elt F) ℕ UU ℕ

variable (m : (ℓ : Loc nD τ sig) → Buf (Elt F) ℓ) (ρ : Dev nD → PrngReg)

section Parts
variable (K : Dev nD × Fin 30 → ℕ)

/-- The three local copies begin, and the first three signals go. -/
theorem part1_run (c : Dev nD) {Q : _ → sProp 𝕄} :
    iprop(records m ρ K ∗ owesE (F := F) c (dBar c 5 :: dBar c 1 :: dBar c 4 :: dBar c 6 :: dBar c 0 :: dBar c 2 :: dBar c 3 :: duesA c) ∗ sigB (F := F) c 5 ∗ sigB (F := F) c 1 ∗ sigB (F := F) c 4 ∗ pts c (Memref.whole main_arg0) fullShare (m ((c : Thread nD τ).loc main_arg0)) ∗ pts c (wqM c) fullShare (m ((c : Thread nD τ).loc main_arg1)) ∗ pts c (Memref.whole main_arg4) fullShare (m ((c : Thread nD τ).loc main_arg4)) ∗ anyPts (F := F) c (Memref.whole cc0_scratch3) ∗ anyPts (F := F) c (Memref.whole cc0_scratch0) ∗ anyPts (F := F) c (Memref.whole cc0_scratch1) ∗ semVal ((c : Thread nD τ), .dma (sW 0)) 0 ∗ semVal ((c : Thread nD τ), .dma (sW 1)) 0 ∗ semVal ((c : Thread nD τ), .dma (sW 2)) 0)
      ⊢ iprop((∀ v2 v26, (owesE (F := F) c (dBar c 6 :: dBar c 0 :: dBar c 2 :: dBar c 3 :: duesA c) ∗ flX m c ∗ flQ m c ∗ flO m c) -∗ Q ⟨c, v2, SemArray.scalar (sig.barrier 0 rfl), v26⟩) -∗ run c (k0_part1 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 ) Q) := by
  rw [k0_part1_eq_skeleton]; unfold k0_part1_skel
  simp only [semSignalWord, semWaitWord, Prog.lift, Prog.bind_op, Prog.bind_ret, Prog.pure_eq_ret, wp_deviceId]
  unfold flX flQ flO
  iintro ⟨#HR, HO, B5, B1, B4, Hx, Hq, Hw, S3, S0, S1, V0, V1, V2⟩ Hk
  iapply (go_copy (F := F) c (xAt m c) (hx_copy m c) (semW 2 _) n_x) $$ [Hx S3 V2]
  · isplitl [Hx]; · iexact Hx
    isplitl [S3]; · iexact S3
    iexact V2
  iintro FX
  iapply (go_copy (F := F) c (wqAt m c) (hq_copy m c) (semW 0 _) n_q) $$ [Hq S0 V0]
  · isplitl [Hq]; · iexact Hq
    isplitl [S0]; · iexact S0
    iexact V0
  iintro FQ
  iapply (go_copy (F := F) c (woAt m c) (ho_copy m c) (semW 1 _) n_o) $$ [Hw S1 V1]
  · isplitl [Hw]; · iexact Hw
    isplitl [S1]; · iexact S1
    iexact V1
  iintro FO
  iapply (go_signal m ρ K c 5 (dBar c 1 :: dBar c 4 :: dBar c 6 :: dBar c 0 :: dBar c 2 :: dBar c 3 :: duesA c) (k0_dev1_eq c) rfl rfl) $$ [HO B5]
  · isplitr; · iexact HR
    isplitl [HO]; · iexact HO
    iexact B5
  iintro HO
  iapply (go_signal m ρ K c 1 (dBar c 4 :: dBar c 6 :: dBar c 0 :: dBar c 2 :: dBar c 3 :: duesA c) (k0_dev2_eq c) rfl rfl) $$ [HO B1]
  · isplitr; · iexact HR
    isplitl [HO]; · iexact HO
    iexact B1
  iintro HO
  iapply (go_signal m ρ K c 4 (dBar c 6 :: dBar c 0 :: dBar c 2 :: dBar c 3 :: duesA c) (k0_dev3_eq c) rfl rfl) $$ [HO B4]
  · isplitr; · iexact HR
    isplitl [HO]; · iexact HO
    iexact B4
  iintro HO
  iapply (go_ret c)
  iapply Hk
  isplitl [HO]; · iexact HO
  isplitl [FX]; · iexact FX
  isplitl [FQ]; · iexact FQ
  iexact FO

/-- The other four signals, and the input and the query columns arrive and are read. -/
theorem part2_run (c : Dev nD) (v2 : BitVec 32) (v26 : BitVec 32) {Q : _ → sProp 𝕄} :
    iprop(records m ρ K ∗ levAts L lv ∗ owesE (F := F) c (dBar c 6 :: dBar c 0 :: dBar c 2 :: dBar c 3 :: duesA c) ∗ sigB (F := F) c 6 ∗ sigB (F := F) c 0 ∗ sigB (F := F) c 2 ∗ sigB (F := F) c 3 ∗ flX m c ∗ flQ m c)
      ⊢ iprop(((owesE (F := F) c (duesA c) ∗ pts c (Memref.whole main_arg0) fullShare (m ((c : Thread nD τ).loc main_arg0)) ∗ pts c (wqM c) fullShare (m ((c : Thread nD τ).loc main_arg1)) ∗ anyPts (F := F) c (Memref.whole cc0_scratch3) ∗ anyPts (F := F) c (Memref.whole cc0_scratch0) ∗ semVal ((c : Thread nD τ), .dma (sW 0)) 0 ∗ semVal ((c : Thread nD τ), .dma (sW 2)) 0) -∗ Q (k0_pay1 (xAt m c) (wqAt m c))) -∗ run c (k0_part2 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 c v2 (SemArray.scalar (sig.barrier 0 rfl)) v26) Q) := by
  rw [k0_part2_eq_skeleton]; unfold k0_part2_skel
  simp only [semSignalWord, semWaitWord, Prog.lift, Prog.bind_op, Prog.bind_ret, Prog.pure_eq_ret, wp_deviceId]
  unfold flX flQ
  iintro ⟨#HR, #Hlev, HO, B6, B0, B2, B3, FX, FQ⟩ Hk
  iapply (go_signal m ρ K c 6 (dBar c 0 :: dBar c 2 :: dBar c 3 :: duesA c) (k0_dev4_eq c) rfl rfl) $$ [HO B6]
  · isplitr; · iexact HR
    isplitl [HO]; · iexact HO
    iexact B6
  iintro HO
  iapply (go_signal m ρ K c 0 (dBar c 2 :: dBar c 3 :: duesA c) (k0_dev5_eq c) rfl rfl) $$ [HO B0]
  · isplitr; · iexact HR
    isplitl [HO]; · iexact HO
    iexact B0
  iintro HO
  iapply (go_signal m ρ K c 2 (dBar c 3 :: duesA c) (k0_dev6_eq c) rfl rfl) $$ [HO B2]
  · isplitr; · iexact HR
    isplitl [HO]; · iexact HO
    iexact B2
  iintro HO
  iapply (go_signal m ρ K c 3 (duesA c) (k0_dev7_eq c) rfl rfl) $$ [HO B3]
  · isplitr; · iexact HR
    isplitl [HO]; · iexact HO
    iexact B3
  iintro HO
  iapply (go_local c (duesA c) 1 (above_A c) (semW 2 _) (by rw [lv_sW]; decide) rfl) $$ [HO FX]
  · isplitr; · iexact Hlev
    isplitl [HO]; · iexact HO
    iexact FX
  iintro ⟨HO, ⟨S3, Hx⟩, V2⟩
  iapply (go_local c (duesA c) 1 (above_A c) (semW 0 _) (by rw [lv_sW]; decide) rfl) $$ [HO FQ]
  · isplitr; · iexact Hlev
    isplitl [HO]; · iexact HO
    iexact FQ
  iintro ⟨HO, ⟨S0, Hq⟩, V0⟩
  iapply (go_load c (M := Memref.whole cc0_scratch3) (in_view _ _) (xAt m c) (Memref.readAt_unit_zero (Elt F) cc0_scratch3 z3 _ _)) $$ S3
  iintro S3
  iapply (go_load c (M := Memref.whole cc0_scratch0) (in_view _ _) (wqAt m c) (Memref.readAt_unit_zero (Elt F) cc0_scratch0 z2 _ _)) $$ S0
  iintro S0
  iapply (go_ret c)
  iapply Hk
  isplitl [HO]; · iexact HO
  isplitl [Hx]; · iexact Hx
  isplitl [Hq]; · iexact Hq
  isplitl [S3]; · iexists _; iexact S3
  isplitl [S0]; · iexists _; iexact S0
  isplitl [V0]; · iexact V0
  iexact V2

end Parts

end Cert.KernelIdeal.Run

end
-- ==== Proof.KSplit.lean ====
/-
A buffer of the exchange, whole and piece by piece; what the accesses of a piece read and hold.
-/
module

public import proofs.«01_k».proof.Proof.KParts

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pointwise

variable {F : FTy → Type} [FloatOps F] [Named F]

local notation "𝕄" => MT nD τ sig Unit (Elt F) ℕ UU ℕ

variable (m : (ℓ : Loc nD τ sig) → Buf (Elt F) ℓ) (ρ : Dev nD → PrngReg)

theorem ctx_disj (t t' : Fin 8) (h : t ≠ t') : Disjoint ((ctxRow t).view.set) ((ctxRow t').view.set) :=
  Finset.disjoint_left.mpr fun i hi hi' => h (Fin.ext (((mem_ctxRow t i).mp hi).symm.trans ((mem_ctxRow t' i).mp hi')))
theorem ctx_cover (i : S256x256.Idx) : ∃ t : Fin 8, i ∈ (ctxRow t).view.set := by
  have h : (i 0).val < 256 := (i 0).isLt
  exact ⟨⟨(i 0).val / 32, by omega⟩, (mem_ctxRow _ i).mpr rfl⟩
/-- The whole buffer, piece by piece (`ctx`). -/
theorem ctx_split (c : Dev nD) (f : Buf (Elt F) (ctxM.view.loc (c : Thread nD τ))) :
    (pts c ctxM fullShare f : sProp 𝕄) = bigSep Finset.univ fun t : Fin 8 => ctxPts c t f := by
  have h0 : (pts c ctxM fullShare f : sProp 𝕄) = (ctxM.view.loc (c : Thread nD τ) ↦{fullShare} f) := by
    show (ctxM.view.loc (c : Thread nD τ) ↦[(View.whole cc0_scratch5 : View sig .tc _ _ _).set]{fullShare} f) = _
    rw [View.set_whole]
  refine h0.trans ?_
  unfold ctxPts
  refine Idealize.ShloMosaic.Ring.pointsTo_blocks (ℓ := ctxM.view.loc (c : Thread nD τ)) (fun t : Fin 8 => (ctxRow t).view.set) ctx_disj ?_ f
  refine Finset.eq_univ_of_forall fun i => ?_
  obtain ⟨t, ht⟩ := ctx_cover i
  exact Finset.mem_biUnion.mpr ⟨t, Finset.mem_univ _, ht⟩
theorem ctx_any (c : Dev nD) : anyPts (F := F) c ctxM ⊢ bigSep Finset.univ fun t : Fin 8 => iprop(∃ f, ctxPts (F := F) c t f) := by
  iintro ⟨%f, H⟩
  ihave H := (Entails.of_eq (ctx_split c f)) $$ H
  have h1 : ∀ t : Fin 8, (ctxPts c t f : sProp 𝕄) ⊢ iprop(∃ f, ctxPts (F := F) c t f) := fun t => by
    iintro H; iexists f; iexact H
  have hm : (bigSep Finset.univ fun t : Fin 8 => (ctxPts c t f : sProp 𝕄)) ⊢ bigSep Finset.univ fun t : Fin 8 => iprop(∃ f, ctxPts (F := F) c t f) :=
    bigSep_mono fun t _ => h1 t
  iapply hm; iexact H

theorem comm_disj (t t' : Fin 8) (h : t ≠ t') : Disjoint ((commSlot t).view.set) ((commSlot t').view.set) :=
  Finset.disjoint_left.mpr fun i hi hi' => h (Fin.ext (((mem_commSlot t i).mp hi).symm.trans ((mem_commSlot t' i).mp hi')))
theorem comm_cover (i : S8x32x256.Idx) : ∃ t : Fin 8, i ∈ (commSlot t).view.set := by
  have h : (i 0).val < 8 := (i 0).isLt
  exact ⟨⟨(i 0).val, by omega⟩, (mem_commSlot _ i).mpr rfl⟩
/-- The whole buffer, piece by piece (`comm`). -/
theorem comm_split (c : Dev nD) (f : Buf (Elt F) (commM.view.loc (c : Thread nD τ))) :
    (pts c commM fullShare f : sProp 𝕄) = bigSep Finset.univ fun t : Fin 8 => commPts c t f := by
  have h0 : (pts c commM fullShare f : sProp 𝕄) = (commM.view.loc (c : Thread nD τ) ↦{fullShare} f) := by
    show (commM.view.loc (c : Thread nD τ) ↦[(View.whole cc0_scratch6 : View sig .tc _ _ _).set]{fullShare} f) = _
    rw [View.set_whole]
  refine h0.trans ?_
  unfold commPts
  refine Idealize.ShloMosaic.Ring.pointsTo_blocks (ℓ := commM.view.loc (c : Thread nD τ)) (fun t : Fin 8 => (commSlot t).view.set) comm_disj ?_ f
  refine Finset.eq_univ_of_forall fun i => ?_
  obtain ⟨t, ht⟩ := comm_cover i
  exact Finset.mem_biUnion.mpr ⟨t, Finset.mem_univ _, ht⟩
theorem comm_any (c : Dev nD) : anyPts (F := F) c commM ⊢ bigSep Finset.univ fun t : Fin 8 => iprop(∃ f, commPts (F := F) c t f) := by
  iintro ⟨%f, H⟩
  ihave H := (Entails.of_eq (comm_split c f)) $$ H
  have h1 : ∀ t : Fin 8, (commPts c t f : sProp 𝕄) ⊢ iprop(∃ f, commPts (F := F) c t f) := fun t => by
    iintro H; iexists f; iexact H
  have hm : (bigSep Finset.univ fun t : Fin 8 => (commPts c t f : sProp 𝕄)) ⊢ bigSep Finset.univ fun t : Fin 8 => iprop(∃ f, commPts (F := F) c t f) :=
    bigSep_mono fun t _ => h1 t
  iapply hm; iexact H

theorem acc_disj (t t' : Fin 8) (h : t ≠ t') : Disjoint ((accRow t).view.set) ((accRow t').view.set) :=
  Finset.disjoint_left.mpr fun i hi hi' => h (Fin.ext (((mem_accRow t i).mp hi).symm.trans ((mem_accRow t' i).mp hi')))
theorem acc_cover (i : S256x512.Idx) : ∃ t : Fin 8, i ∈ (accRow t).view.set := by
  have h : (i 0).val < 256 := (i 0).isLt
  exact ⟨⟨(i 0).val / 32, by omega⟩, (mem_accRow _ i).mpr rfl⟩
/-- The whole buffer, piece by piece (`acc`). -/
theorem acc_split (c : Dev nD) (f : Buf (Elt F) (accM.view.loc (c : Thread nD τ))) :
    (pts c accM fullShare f : sProp 𝕄) = bigSep Finset.univ fun t : Fin 8 => accPts c t f := by
  have h0 : (pts c accM fullShare f : sProp 𝕄) = (accM.view.loc (c : Thread nD τ) ↦{fullShare} f) := by
    show (accM.view.loc (c : Thread nD τ) ↦[(View.whole cc0_scratch8 : View sig .tc _ _ _).set]{fullShare} f) = _
    rw [View.set_whole]
  refine h0.trans ?_
  unfold accPts
  refine Idealize.ShloMosaic.Ring.pointsTo_blocks (ℓ := accM.view.loc (c : Thread nD τ)) (fun t : Fin 8 => (accRow t).view.set) acc_disj ?_ f
  refine Finset.eq_univ_of_forall fun i => ?_
  obtain ⟨t, ht⟩ := acc_cover i
  exact Finset.mem_biUnion.mpr ⟨t, Finset.mem_univ _, ht⟩
theorem acc_any (c : Dev nD) : anyPts (F := F) c accM ⊢ bigSep Finset.univ fun t : Fin 8 => iprop(∃ f, accPts (F := F) c t f) := by
  iintro ⟨%f, H⟩
  ihave H := (Entails.of_eq (acc_split c f)) $$ H
  have h1 : ∀ t : Fin 8, (accPts c t f : sProp 𝕄) ⊢ iprop(∃ f, accPts (F := F) c t f) := fun t => by
    iintro H; iexists f; iexact H
  have hm : (bigSep Finset.univ fun t : Fin 8 => (accPts c t f : sProp 𝕄)) ⊢ bigSep Finset.univ fun t : Fin 8 => iprop(∃ f, accPts (F := F) c t f) :=
    bigSep_mono fun t _ => h1 t
  iapply hm; iexact H

/-- The finished rows, in one share for each transfer and one to read by. -/
theorem red_split (c : Dev nD) (f : Buf (Elt F) (redM.view.loc (c : Thread nD τ))) :
    (redPts c fullShare f : sProp 𝕄) ⊢ iprop(redPts c (Transfers.shareDrop fullShare 7) f ∗ bigSep Finset.univ fun r : Fin 7 => redPts c (redShare r) f) := by
  unfold redPts redShare; exact Transfers.pointsTo_toks_split fullShare 7
theorem red_join (c : Dev nD) (f : Buf (Elt F) (redM.view.loc (c : Thread nD τ))) :
    iprop(redPts c (Transfers.shareDrop fullShare 7) f ∗ bigSep Finset.univ fun r : Fin 7 => redPts c (redShare r) f) ⊢ (redPts c fullShare f : sProp 𝕄) := by
  unfold redPts redShare; exact Transfers.pointsTo_toks_join fullShare 7

/-! ## The accesses of a piece -/

theorem comm_access_set {off : Fin 3 → ℕ} {t : Fin 8} (h : off = ![t.val, 0, 0]) (inb) :
    (commM.access (Rect.unit (s := S8x32x256) off S1x32x256.size inb)).set = (commSlot t).view.set := by
  subst h
  exact (View.set_reshape (commM.slice (Rect.unit (s := S8x32x256) ![t.val, 0, 0] S1x32x256.size inb) (fun _ => rfl)).view _).symm
theorem acc_access_set {off : Fin 2 → ℕ} {t : Fin 8} (h : off = ![32 * t.val, 0]) (inb) :
    (accM.access (Rect.unit (s := S256x512) off S32x512.size inb)).set = (accRow t).view.set := by
  subst h; rfl

/-- The device's own slot of the gathered blocks holds its own block of its own context. -/
theorem own_slot (c : Dev nD) {off : Fin 3 → ℕ} {off' : Fin 2 → ℕ} (h : off = ![c.val, 0, 0]) (h' : off' = ![32 * c.val, 0]) (inb) (inb') :
    (commM.access (Rect.unit (s := S8x32x256) off S1x32x256.size inb)).read (Elt F) (commF m ρ c)
      = k0_pay23 (ctxM.view.readAt (Elt F) (Rect.unit (s := S256x256) off' S32x256.size inb').toLoadRect (ctxF m ρ c)) := by
  subst h h'
  funext i
  rw [eq_ix3 i]
  refine Eq.trans ?_ (ValueIdx.shapeCast_ab_1ab_apply (ctxM.view.readAt (Elt F) (Rect.unit (s := S256x256) ![32 * c.val, 0] S32x256.size inb').toLoadRect (ctxF m ρ c)) shapeCasts_S32x256_S1x32x256 (i 0) (i 1) (i 2)).symm
  show ctxF m ρ _ _ = ctxF m ρ c _
  have h0 : (i 0).val < 1 := (i 0).isLt
  have h1 : (i 1).val < 32 := (i 1).isLt
  refine congr (congrArg _ (Fin.ext ?_)) (ext2 ?_ ?_)
  · show c.val + 1 * (i 0).val = c.val; omega
  · show 32 * c.val + (0 + 1 * (i 1).val) = 32 * c.val + 1 * (i 1).val; omega
  · show 0 + 1 * (i 2).val = 0 + 1 * (i 2).val; rfl

/-- A load of a slot of the gathered blocks. -/
theorem read_slot (c : Dev nD) (j : Fin 8) (inb) :
    commM.view.readAt (Elt F) (Rect.unit (s := S8x32x256) ![j.val, 0, 0] S1x32x256.size inb).toLoadRect (commF m ρ c) = slotV m ρ c j := by
  funext i
  have h0 : (i 0).val < 1 := (i 0).isLt
  show ctxF m ρ _ _ = ctxF m ρ j _
  refine congr (congrArg (ctxF m ρ) (Fin.ext ?_)) (ext2 ?_ ?_)
  · show j.val + 1 * (i 0).val = j.val; omega
  · show 32 * c.val + (0 + 1 * (i 1).val) = 32 * c.val + (i 1).val; omega
  · show 0 + 1 * (i 2).val = (i 2).val; omega

/-- The device's own block of the result holds its own rows. -/
theorem own_rows (c : Dev nD) {off : Fin 2 → ℕ} (h : off = ![32 * c.val, 0]) (inb) :
    (accM.access (Rect.unit (s := S256x512) off S32x512.size inb)).read (Elt F) (accF m ρ) = k0_pay30 (redF m ρ c) := by
  subst h
  refine (land_acc m ρ c).trans ?_
  unfold k0_pay30
  exact (shapeCast_self _ _).symm

/-- A piece, as elements of the whole buffer. -/
theorem comm_as (c : Dev nD) (t : Fin 8) (f : Buf (Elt F) (commM.view.loc (c : Thread nD τ))) :
    (commPts c t f : sProp 𝕄) = (commM.view.loc (c : Thread nD τ) ↦[(commSlot t).view.set]{fullShare} f) := rfl
theorem acc_as (c : Dev nD) (t : Fin 8) (f : Buf (Elt F) (accM.view.loc (c : Thread nD τ))) :
    (accPts c t f : sProp 𝕄) = (accM.view.loc (c : Thread nD τ) ↦[(accRow t).view.set]{fullShare} f) := rfl

/-- An access of all of a buffer touches all of it. -/
theorem whole_access_set (b : Ref sig .tc) {off : Fin b.ty.shape.rank → ℕ} (h : off = fun _ => 0) (inb) :
    ((Memref.whole b : Memref sig .tc _ _ _).access (Rect.unit off b.ty.shape.size inb)).set = (Memref.whole b : Memref sig .tc _ _ _).view.set := by
  subst h
  exact (Memref.set_access_whole b).trans (View.set_whole b).symm
theorem comm_load_sub {off : Fin 3 → ℕ} {t : Fin 8} (h : off = ![t.val, 0, 0]) (inb) :
    commM.view.setOn (Rect.unit (s := S8x32x256) off S1x32x256.size inb).toLoadRect.set ⊆ (commSlot t).view.set := by
  rw [← comm_access_set h inb, View.set_slice]; exact Finset.Subset.refl _
theorem acc_load_sub {off : Fin 2 → ℕ} {t : Fin 8} (h : off = ![32 * t.val, 0]) (inb) :
    accM.view.setOn (Rect.unit (s := S256x512) off S32x512.size inb).toLoadRect.set ⊆ (accRow t).view.set := by
  rw [← acc_access_set h inb, View.set_slice]; exact Finset.Subset.refl _

end Cert.KernelIdeal.Run

end
-- ==== Proof.KRunB.lean ====
/-
The parts of the body that send the context: stored, split into blocks, sent round.
-/
module

public import proofs.«01_k».proof.Proof.KSplit

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pointwise

variable {F : FTy → Type} [FloatOps F] [Named F]

local notation "𝕄" => MT nD τ sig Unit (Elt F) ℕ UU ℕ

variable (m : (ℓ : Loc nD τ sig) → Buf (Elt F) ℓ) (ρ : Dev nD → PrngReg)

section Parts
variable (K : Dev nD × Fin 30 → ℕ)

/-- The context is stored, the device's own block of it put in its own slot, the barrier passed, the first block sent. -/
theorem part8_run (c : Dev nD) (v2 : BitVec 32) {Q : _ → sProp 𝕄} :
    iprop(records m ρ K ∗ levAts L lv ∗ owesE (F := F) c (d1 c 5 :: d1 c 1 :: d1 c 4 :: d1 c 6 :: d1 c 0 :: d1 c 2 :: d1 c 3 :: duesB c) ∗ anyPts (F := F) c ctxM ∗ (∃ f, commPts (F := F) c c f) ∗ cred (tallyAt (barCell c) () 7) ∗ atPos ER (barCell c) 0 ∅ 0 ∗ (bigSep Finset.univ fun r => tok1B (F := F) c r))
      ⊢ iprop(((owesE (F := F) c (d1 c 1 :: d1 c 4 :: d1 c 6 :: d1 c 0 :: d1 c 2 :: d1 c 3 :: duesB c) ∗ ctxPts c c (ctxF m ρ c) ∗ commPts c c (commF m ρ c) ∗ semVal (barCell c) 0 ∗ s1post (F := F) c 5 ∗ s1pre m ρ c 1 ∗ s1pre m ρ c 4 ∗ s1pre m ρ c 6 ∗ s1pre m ρ c 0 ∗ s1pre m ρ c 2 ∗ s1pre m ρ c 3) -∗ Q ⟨⟩) -∗ run c (k0_part8 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 c v2 (SemArray.scalar (sig.barrier 0 rfl)) (heads (k0_pay1 (xAt m c) (wqAt m c)) (k0_pay2 (kAt m ρ c)) (k0_pay3 (vAt m ρ c)))) Q) := by
  rw [k0_part8_eq_skeleton]; unfold k0_part8_skel
  simp only [semSignalWord, semWaitWord, Prog.lift, Prog.bind_op, Prog.bind_ret, Prog.pure_eq_ret, wp_deviceId]
  iintro ⟨#HR, #Hlev, HO, ⟨%f, Sx⟩, ⟨%f', Sc⟩, Cb, Ab, HT⟩ Hk
  ihave HT := (Entails.of_eq (seven fun r => tok1B (F := F) c r)) $$ HT
  icases HT with ⟨T5, T1, T4, T6, T0, T2, T3⟩
  iapply (go_load c (M := Memref.whole cc0_scratch5) (in_view _ _) _ rfl) $$ Sx
  iintro Sx
  iapply (go_store c (Memref.whole cc0_scratch5) (Rect.unit (s := S256x256) ![0, 0] S256x256.size inb_S256x256_S256x256_0_0) (Memref.whole cc0_scratch5 : Memref sig .tc _ _ _).view.set (whole_access_set cc0_scratch5 z2 _) (ctxF m ρ c) (Memref.readAt_unit_zero (Elt F) cc0_scratch5 z2 _ (ctxF m ρ c))) $$ [Sx]
  · iexists _; iexact Sx
  iintro Sx
  iapply (go_load c (M := Memref.whole cc0_scratch5) (in_view _ _) _ rfl) $$ Sx
  iintro Sx
  ihave Sc := (Entails.of_eq (comm_as c c f')) $$ Sc
  iapply (go_load c (M := commM) (S := (commSlot c).view.set) (q := fullShare) (f := f') (comm_load_sub (k0_off3_eq c) _) _ rfl) $$ [Sc]
  · iexact Sc
  iintro Sc
  iapply (go_store c commM (Rect.unit (s := S8x32x256) (k0_off3 c) S1x32x256.size (k0_off3_inb c)) (commSlot c).view.set (comm_access_set (k0_off3_eq c) _) (commF m ρ c) (own_slot m ρ c (k0_off3_eq c) (k0_off2_eq c) _ _)) $$ [Sc]
  · iexists _; iexact Sc
  iintro Sc
  ihave Sc := (Entails.of_eq (comm_as c c (commF m ρ c)).symm) $$ Sc
  iapply (step_barrier m ρ K c (d1 c 5 :: d1 c 1 :: d1 c 4 :: d1 c 6 :: d1 c 0 :: d1 c 2 :: d1 c 3 :: duesB c) 1 (above_A c) (Nat.le_refl _) rfl rfl) $$ [HO Cb Ab]
  · isplitr; · iexact HR
    isplitr; · iexact Hlev
    isplitl [HO]; · iexact HO
    isplitl [Cb]; · iexact Cb
    iexact Ab
  iintro ⟨HO, HB, Hz⟩
  ihave HB := (Entails.of_eq (seven fun r => barPay (F := F) c r)) $$ HB
  icases HB with ⟨B5, B1, B4, B6, B0, B2, B3⟩
  ihave Sx := (Entails.of_eq ((ctx_split c (ctxF m ρ c)).trans ((around_fwd c _).trans (congrArg (fun X => iprop(ctxPts c c (ctxF m ρ c) ∗ X)) (seven _))))) $$ Sx
  icases Sx with ⟨Sx, X5, X1, X4, X6, X0, X2, X3⟩
  ihave P5 : s1pre m ρ c 5 $$ [X5 B5 T5]
  · unfold s1pre
    isplitl [X5]; · iexact X5
    isplitl [B5]; · iexact B5
    iexact T5
  ihave P1 : s1pre m ρ c 1 $$ [X1 B1 T1]
  · unfold s1pre
    isplitl [X1]; · iexact X1
    isplitl [B1]; · iexact B1
    iexact T1
  ihave P4 : s1pre m ρ c 4 $$ [X4 B4 T4]
  · unfold s1pre
    isplitl [X4]; · iexact X4
    isplitl [B4]; · iexact B4
    iexact T4
  ihave P6 : s1pre m ρ c 6 $$ [X6 B6 T6]
  · unfold s1pre
    isplitl [X6]; · iexact X6
    isplitl [B6]; · iexact B6
    iexact T6
  ihave P0 : s1pre m ρ c 0 $$ [X0 B0 T0]
  · unfold s1pre
    isplitl [X0]; · iexact X0
    isplitl [B0]; · iexact B0
    iexact T0
  ihave P2 : s1pre m ρ c 2 $$ [X2 B2 T2]
  · unfold s1pre
    isplitl [X2]; · iexact X2
    isplitl [B2]; · iexact B2
    iexact T2
  ihave P3 : s1pre m ρ c 3 $$ [X3 B3 T3]
  · unfold s1pre
    isplitl [X3]; · iexact X3
    isplitl [B3]; · iexact B3
    iexact T3
  iapply (go_send1 m ρ K c 5 (d1 c 1 :: d1 c 4 :: d1 c 6 :: d1 c 0 :: d1 c 2 :: d1 c 3 :: duesB c) (k0_dev8_eq c) (ctx_slice_eq (off6_at c 5)) (comm_slice_eq (k0_off5_eq c)) (semS1 5 _) (semR1 c (k0_off4_eq c) _)) $$ [HO P5]
  · isplitr; · iexact HR
    isplitl [HO]; · iexact HO
    iexact P5
  iintro ⟨HO, P5⟩
  iapply (go_ret c)
  iapply Hk
  isplitl [HO]; · iexact HO
  isplitl [Sx]; · iexact Sx
  isplitl [Sc]; · iexact Sc
  isplitl [Hz]; · iexact Hz
  isplitl [P5]; · iexact P5
  isplitl [P1]; · iexact P1
  isplitl [P4]; · iexact P4
  isplitl [P6]; · iexact P6
  isplitl [P0]; · iexact P0
  isplitl [P2]; · iexact P2
  iexact P3

/-- Three more blocks are sent. -/
theorem part9_run (c : Dev nD) (v2 : BitVec 32) {Q : _ → sProp 𝕄} :
    iprop(records m ρ K ∗ owesE (F := F) c (d1 c 1 :: d1 c 4 :: d1 c 6 :: d1 c 0 :: d1 c 2 :: d1 c 3 :: duesB c) ∗ s1pre m ρ c 1 ∗ s1pre m ρ c 4 ∗ s1pre m ρ c 6)
      ⊢ iprop((∀ v w, (owesE (F := F) c (d1 c 0 :: d1 c 2 :: d1 c 3 :: duesB c) ∗ s1post (F := F) c 1 ∗ s1post (F := F) c 4 ∗ s1post (F := F) c 6) -∗ Q ⟨v, w⟩) -∗ run c (k0_part9 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 c v2) Q) := by
  rw [k0_part9_eq_skeleton]; unfold k0_part9_skel
  simp only [semSignalWord, semWaitWord, Prog.lift, Prog.bind_op, Prog.bind_ret, Prog.pure_eq_ret, wp_deviceId]
  iintro ⟨#HR, HO, P1, P4, P6⟩ Hk
  iapply (go_send1 m ρ K c 1 (d1 c 4 :: d1 c 6 :: d1 c 0 :: d1 c 2 :: d1 c 3 :: duesB c) (k0_dev9_eq c) (ctx_slice_eq (off6_at c 1)) (comm_slice_eq (k0_off5_eq c)) (semS1 1 _) (semR1 c (k0_off4_eq c) _)) $$ [HO P1]
  · isplitr; · iexact HR
    isplitl [HO]; · iexact HO
    iexact P1
  iintro ⟨HO, P1⟩
  iapply (go_send1 m ρ K c 4 (d1 c 6 :: d1 c 0 :: d1 c 2 :: d1 c 3 :: duesB c) (k0_dev10_eq c) (ctx_slice_eq (off6_at c 4)) (comm_slice_eq (k0_off5_eq c)) (semS1 4 _) (semR1 c (k0_off4_eq c) _)) $$ [HO P4]
  · isplitr; · iexact HR
    isplitl [HO]; · iexact HO
    iexact P4
  iintro ⟨HO, P4⟩
  iapply (go_send1 m ρ K c 6 (d1 c 0 :: d1 c 2 :: d1 c 3 :: duesB c) (k0_dev11_eq c) (ctx_slice_eq (off6_at c 6)) (comm_slice_eq (k0_off5_eq c)) (semS1 6 _) (semR1 c (k0_off4_eq c) _)) $$ [HO P6]
  · isplitr; · iexact HR
    isplitl [HO]; · iexact HO
    iexact P6
  iintro ⟨HO, P6⟩
  iapply (go_ret c)
  iapply Hk
  isplitl [HO]; · iexact HO
  isplitl [P1]; · iexact P1
  isplitl [P4]; · iexact P4
  iexact P6

/-- The last three blocks are sent, and the output projection has arrived. -/
theorem part10_run (c : Dev nD) (v2 v346 c0 : BitVec 32) {Q : _ → sProp 𝕄} :
    iprop(records m ρ K ∗ levAts L lv ∗ owesE (F := F) c (d1 c 0 :: d1 c 2 :: d1 c 3 :: duesB c) ∗ s1pre m ρ c 0 ∗ s1pre m ρ c 2 ∗ s1pre m ρ c 3 ∗ flO m c)
      ⊢ iprop(((owesE (F := F) c (duesB c) ∗ s1post (F := F) c 0 ∗ s1post (F := F) c 2 ∗ s1post (F := F) c 3 ∗ pts c (Memref.whole cc0_scratch1) fullShare (woAt m c) ∗ pts c (Memref.whole main_arg4) fullShare (m ((c : Thread nD τ).loc main_arg4)) ∗ semVal ((c : Thread nD τ), .dma (sW 1)) 0) -∗ Q ⟨⟩) -∗ run c (k0_part10 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 c v2 v346 c0) Q) := by
  rw [k0_part10_eq_skeleton]; unfold k0_part10_skel
  simp only [semSignalWord, semWaitWord, Prog.lift, Prog.bind_op, Prog.bind_ret, Prog.pure_eq_ret, wp_deviceId]
  unfold flO
  iintro ⟨#HR, #Hlev, HO, P0, P2, P3, FO⟩ Hk
  iapply (go_send1 m ρ K c 0 (d1 c 2 :: d1 c 3 :: duesB c) (k0_dev12_eq c) (ctx_slice_eq (off6_at c 0)) (comm_slice_eq (k0_off5_eq c)) (semS1 0 _) (semR1 c (k0_off4_eq c) _)) $$ [HO P0]
  · isplitr; · iexact HR
    isplitl [HO]; · iexact HO
    iexact P0
  iintro ⟨HO, P0⟩
  iapply (go_send1 m ρ K c 2 (d1 c 3 :: duesB c) (k0_dev13_eq c) (ctx_slice_eq (off6_at c 2)) (comm_slice_eq (k0_off5_eq c)) (semS1 2 _) (semR1 c (k0_off4_eq c) _)) $$ [HO P2]
  · isplitr; · iexact HR
    isplitl [HO]; · iexact HO
    iexact P2
  iintro ⟨HO, P2⟩
  iapply (go_send1 m ρ K c 3 (duesB c) (k0_dev14_eq c) (ctx_slice_eq (off6_at c 3)) (comm_slice_eq (k0_off5_eq c)) (semS1 3 _) (semR1 c (k0_off4_eq c) _)) $$ [HO P3]
  · isplitr; · iexact HR
    isplitl [HO]; · iexact HO
    iexact P3
  iintro ⟨HO, P3⟩
  iapply (go_local c (duesB c) 2 (above_B c) (semW 1 _) (by rw [lv_sW]; decide) rfl) $$ [HO FO]
  · isplitr; · iexact Hlev
    isplitl [HO]; · iexact HO
    iexact FO
  iintro ⟨HO, ⟨S1, Hw⟩, V1⟩
  iapply (go_ret c)
  iapply Hk
  isplitl [HO]; · iexact HO
  isplitl [P0]; · iexact P0
  isplitl [P2]; · iexact P2
  isplitl [P3]; · iexact P3
  isplitl [S1]; · iexact S1
  isplitl [Hw]; · iexact Hw
  iexact V1

end Parts

end Cert.KernelIdeal.Run

end
-- ==== Proof.KRunC.lean ====
/-
The parts of the body that gather the context and compute the device's rows of the result.
-/
module

public import proofs.«01_k».proof.Proof.KSplit

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pointwise

variable {F : FTy → Type} [FloatOps F] [Named F]

local notation "𝕄" => MT nD τ sig Unit (Elt F) ℕ UU ℕ

variable (m : (ℓ : Loc nD τ sig) → Buf (Elt F) ℓ) (ρ : Dev nD → PrngReg)

section Parts
variable (K : Dev nD × Fin 30 → ℕ)

/-- The output projection is read and stored rounded; two blocks have arrived. -/
theorem part11_run (c : Dev nD) (v2 : BitVec 32) {Q : _ → sProp 𝕄} :
    iprop(records m ρ K ∗ levAts L lv ∗ owesE (F := F) c (duesB c) ∗ pts c (Memref.whole cc0_scratch1) fullShare (woAt m c) ∗ anyPts (F := F) c (Memref.whole cc0_scratch2) ∗ w1pre (F := F) c 5 ∗ w1pre (F := F) c 1)
      ⊢ iprop((∀ v, (owesE (F := F) c (duesB c) ∗ anyPts (F := F) c (Memref.whole cc0_scratch1) ∗ pts c (Memref.whole cc0_scratch2) fullShare (k0_pay24 (woAt m c)) ∗ w1post m ρ c 5 ∗ w1post m ρ c 1) -∗ Q v) -∗ run c (k0_part11 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 c v2) Q) := by
  rw [k0_part11_eq_skeleton]; unfold k0_part11_skel
  simp only [semSignalWord, semWaitWord, Prog.lift, Prog.bind_op, Prog.bind_ret, Prog.pure_eq_ret, wp_deviceId]
  iintro ⟨#HR, #Hlev, HO, S1, ⟨%f, S2⟩, W5, W1⟩ Hk
  iapply (go_load c (M := Memref.whole cc0_scratch1) (in_view _ _) (woAt m c) (Memref.readAt_unit_zero (Elt F) cc0_scratch1 z2 _ _)) $$ S1
  iintro S1
  iapply (go_load c (M := Memref.whole cc0_scratch2) (in_view _ _) _ rfl) $$ S2
  iintro S2
  iapply (go_store c (Memref.whole cc0_scratch2) (Rect.unit (s := S2048x512) ![0, 0] S2048x512.size inb_S2048x512_S2048x512_0_0) (Memref.whole cc0_scratch2 : Memref sig .tc _ _ _).view.set (whole_access_set cc0_scratch2 z2 _) (k0_pay24 (woAt m c)) (Memref.readAt_unit_zero (Elt F) cc0_scratch2 z2 _ (k0_pay24 (woAt m c)))) $$ [S2]
  · iexists _; iexact S2
  iintro S2
  iapply (go_w1 m ρ K c 5 (duesB c) (above_B c) (semR1 (bwd c 5) (off7_at c 5) _)) $$ [HO W5]
  · isplitr; · iexact HR
    isplitr; · iexact Hlev
    isplitl [HO]; · iexact HO
    iexact W5
  iintro ⟨HO, W5⟩
  iapply (go_w1 m ρ K c 1 (duesB c) (above_B c) (semR1 (bwd c 1) (off7_at c 1) _)) $$ [HO W1]
  · isplitr; · iexact HR
    isplitr; · iexact Hlev
    isplitl [HO]; · iexact HO
    iexact W1
  iintro ⟨HO, W1⟩
  iapply (go_ret c)
  iapply Hk
  isplitl [HO]; · iexact HO
  isplitl [S1]; · iexists _; iexact S1
  isplitl [S2]; · iexact S2
  isplitl [W5]; · iexact W5
  iexact W1

/-- Three more blocks have arrived. -/
theorem part12_run (c : Dev nD) (v2 c1 : BitVec 32) {Q : _ → sProp 𝕄} :
    iprop(records m ρ K ∗ levAts L lv ∗ owesE (F := F) c (duesB c) ∗ w1pre (F := F) c 4 ∗ w1pre (F := F) c 6 ∗ w1pre (F := F) c 0)
      ⊢ iprop((∀ v w, (owesE (F := F) c (duesB c) ∗ w1post m ρ c 4 ∗ w1post m ρ c 6 ∗ w1post m ρ c 0) -∗ Q ⟨v, w⟩) -∗ run c (k0_part12 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 c v2 c1) Q) := by
  rw [k0_part12_eq_skeleton]; unfold k0_part12_skel
  simp only [semSignalWord, semWaitWord, Prog.lift, Prog.bind_op, Prog.bind_ret, Prog.pure_eq_ret, wp_deviceId]
  iintro ⟨#HR, #Hlev, HO, W4, W6, W0⟩ Hk
  iapply (go_w1 m ρ K c 4 (duesB c) (above_B c) (semR1 (bwd c 4) (off7_at c 4) _)) $$ [HO W4]
  · isplitr; · iexact HR
    isplitr; · iexact Hlev
    isplitl [HO]; · iexact HO
    iexact W4
  iintro ⟨HO, W4⟩
  iapply (go_w1 m ρ K c 6 (duesB c) (above_B c) (semR1 (bwd c 6) (off7_at c 6) _)) $$ [HO W6]
  · isplitr; · iexact HR
    isplitr; · iexact Hlev
    isplitl [HO]; · iexact HO
    iexact W6
  iintro ⟨HO, W6⟩
  iapply (go_w1 m ρ K c 0 (duesB c) (above_B c) (semR1 (bwd c 0) (off7_at c 0) _)) $$ [HO W0]
  · isplitr; · iexact HR
    isplitr; · iexact Hlev
    isplitl [HO]; · iexact HO
    iexact W0
  iintro ⟨HO, W0⟩
  iapply (go_ret c)
  iapply Hk
  isplitl [HO]; · iexact HO
  isplitl [W4]; · iexact W4
  isplitl [W6]; · iexact W6
  iexact W0

/-- The last two blocks have arrived; the gathered blocks are read, the first four of them here. -/
theorem part13_run (c : Dev nD) (v2 v437 c8 : BitVec 32) {Q : _ → sProp 𝕄} :
    iprop(records m ρ K ∗ levAts L lv ∗ owesE (F := F) c (duesB c) ∗ w1pre (F := F) c 2 ∗ w1pre (F := F) c 3 ∗ w1post m ρ c 5 ∗ w1post m ρ c 1 ∗ w1post m ρ c 4 ∗ w1post m ρ c 6 ∗ w1post m ρ c 0 ∗ commPts c c (commF m ρ c))
      ⊢ iprop(((owesE (F := F) c (duesB c) ∗ pts c commM fullShare (commF m ρ c) ∗ (bigSep Finset.univ fun r : Fin 7 => semVal (recv1Cell c (bwd c r)) 0)) -∗ Q ⟨k0_pay25 (slotV m ρ c 0), k0_pay26 (slotV m ρ c 1), k0_pay27 (slotV m ρ c 2), k0_pay28 (slotV m ρ c 3)⟩) -∗ run c (k0_part13 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 c v2 v437 c8) Q) := by
  rw [k0_part13_eq_skeleton]; unfold k0_part13_skel
  simp only [semSignalWord, semWaitWord, Prog.lift, Prog.bind_op, Prog.bind_ret, Prog.pure_eq_ret, wp_deviceId]
  iintro ⟨#HR, #Hlev, HO, W2, W3, W5, W1, W4, W6, W0, Sc⟩ Hk
  iapply (go_w1 m ρ K c 2 (duesB c) (above_B c) (semR1 (bwd c 2) (off7_at c 2) _)) $$ [HO W2]
  · isplitr; · iexact HR
    isplitr; · iexact Hlev
    isplitl [HO]; · iexact HO
    iexact W2
  iintro ⟨HO, W2⟩
  iapply (go_w1 m ρ K c 3 (duesB c) (above_B c) (semR1 (bwd c 3) (off7_at c 3) _)) $$ [HO W3]
  · isplitr; · iexact HR
    isplitr; · iexact Hlev
    isplitl [HO]; · iexact HO
    iexact W3
  iintro ⟨HO, W3⟩
  unfold w1post
  icases W5 with ⟨W5, Z5⟩
  icases W1 with ⟨W1, Z1⟩
  icases W4 with ⟨W4, Z4⟩
  icases W6 with ⟨W6, Z6⟩
  icases W0 with ⟨W0, Z0⟩
  icases W2 with ⟨W2, Z2⟩
  icases W3 with ⟨W3, Z3⟩
  ihave Sc := (Entails.of_eq ((comm_split c (commF m ρ c)).trans ((around_bwd c _).trans (congrArg (fun X => iprop(commPts c c (commF m ρ c) ∗ X)) (seven _)))).symm) $$ [Sc W5 W1 W4 W6 W0 W2 W3]
  · isplitl [Sc]; · iexact Sc
    isplitl [W5]; · iexact W5
    isplitl [W1]; · iexact W1
    isplitl [W4]; · iexact W4
    isplitl [W6]; · iexact W6
    isplitl [W0]; · iexact W0
    isplitl [W2]; · iexact W2
    iexact W3
  ihave Hz := (Entails.of_eq (seven fun r : Fin 7 => (semVal (recv1Cell c (bwd c r)) 0 : sProp 𝕄)).symm) $$ [Z5 Z1 Z4 Z6 Z0 Z2 Z3]
  · isplitl [Z5]; · iexact Z5
    isplitl [Z1]; · iexact Z1
    isplitl [Z4]; · iexact Z4
    isplitl [Z6]; · iexact Z6
    isplitl [Z0]; · iexact Z0
    isplitl [Z2]; · iexact Z2
    iexact Z3
  iapply (go_load c (M := commM) (in_view _ _) (slotV m ρ c 0) (read_slot m ρ c 0 _)) $$ Sc
  iintro Sc
  iapply (go_load c (M := commM) (in_view _ _) (slotV m ρ c 1) (read_slot m ρ c 1 _)) $$ Sc
  iintro Sc
  iapply (go_load c (M := commM) (in_view _ _) (slotV m ρ c 2) (read_slot m ρ c 2 _)) $$ Sc
  iintro Sc
  iapply (go_load c (M := commM) (in_view _ _) (slotV m ρ c 3) (read_slot m ρ c 3 _)) $$ Sc
  iintro Sc
  iapply (go_ret c)
  iapply Hk
  isplitl [HO]; · iexact HO
  isplitl [Sc]; · iexact Sc
  iexact Hz

/-- The other gathered blocks are read, the device's rows of the result computed and stored, and first sent. -/
theorem part14_run (c : Dev nD) (v2 : BitVec 32) {Q : _ → sProp 𝕄} :
    iprop(records m ρ K ∗ owesE (F := F) c (duesB c) ∗ pts c commM fullShare (commF m ρ c) ∗ pts c (Memref.whole cc0_scratch2) fullShare (k0_pay24 (woAt m c)) ∗ anyPts (F := F) c redM ∗ (bigSep Finset.univ fun r => lent (F := F) c r) ∗ (bigSep Finset.univ fun r => tok2B (F := F) c r))
      ⊢ iprop((∀ v w, (owesE (F := F) c (d2 c 1 :: d2 c 4 :: d2 c 6 :: d2 c 0 :: d2 c 2 :: d2 c 3 :: []) ∗ pts c commM fullShare (commF m ρ c) ∗ anyPts (F := F) c (Memref.whole cc0_scratch2) ∗ redPts c (Transfers.shareDrop fullShare 7) (redF m ρ c) ∗ s2post (F := F) c 5 ∗ s2pre m ρ c 1 ∗ s2pre m ρ c 4 ∗ s2pre m ρ c 6 ∗ s2pre m ρ c 0 ∗ s2pre m ρ c 2 ∗ s2pre m ρ c 3) -∗ Q ⟨v, w⟩) -∗ run c (k0_part14 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 c v2 (k0_pay25 (slotV m ρ c 0)) (k0_pay26 (slotV m ρ c 1)) (k0_pay27 (slotV m ρ c 2)) (k0_pay28 (slotV m ρ c 3))) Q) := by
  rw [k0_part14_eq_skeleton]; unfold k0_part14_skel
  simp only [semSignalWord, semWaitWord, Prog.lift, Prog.bind_op, Prog.bind_ret, Prog.pure_eq_ret, wp_deviceId]
  iintro ⟨#HR, HO, Sc, S2, ⟨%f, S7⟩, HL, HT⟩ Hk
  ihave HL := (Entails.of_eq (seven fun r => lent (F := F) c r)) $$ HL
  icases HL with ⟨L5, L1, L4, L6, L0, L2, L3⟩
  ihave HT := (Entails.of_eq (seven fun r => tok2B (F := F) c r)) $$ HT
  icases HT with ⟨T5, T1, T4, T6, T0, T2, T3⟩
  iapply (go_load c (M := commM) (in_view _ _) (slotV m ρ c 4) (read_slot m ρ c 4 _)) $$ Sc
  iintro Sc
  iapply (go_load c (M := commM) (in_view _ _) (slotV m ρ c 5) (read_slot m ρ c 5 _)) $$ Sc
  iintro Sc
  iapply (go_load c (M := commM) (in_view _ _) (slotV m ρ c 6) (read_slot m ρ c 6 _)) $$ Sc
  iintro Sc
  iapply (go_load c (M := commM) (in_view _ _) (slotV m ρ c 7) (read_slot m ρ c 7 _)) $$ Sc
  iintro Sc
  iapply (go_load c (M := Memref.whole cc0_scratch2) (in_view _ _) (k0_pay24 (woAt m c)) (Memref.readAt_unit_zero (Elt F) cc0_scratch2 z2 _ _)) $$ S2
  iintro S2
  iapply (go_load c (M := Memref.whole cc0_scratch7) (in_view _ _) _ rfl) $$ S7
  iintro S7
  iapply (go_store c (Memref.whole cc0_scratch7) (Rect.unit (s := S32x512) ![0, 0] S32x512.size inb_S32x512_S32x512_0_0) (Memref.whole cc0_scratch7 : Memref sig .tc _ _ _).view.set (whole_access_set cc0_scratch7 z2 _) (redF m ρ c) (Memref.readAt_unit_zero (Elt F) cc0_scratch7 z2 _ (redF m ρ c))) $$ [S7]
  · iexists _; iexact S7
  iintro S7
  ihave S7 := (red_split c (redF m ρ c)) $$ [S7]
  · unfold redPts; iexact S7
  icases S7 with ⟨S7, HX⟩
  ihave HX := (Entails.of_eq (seven fun r => redPts c (redShare r) (redF m ρ c))) $$ HX
  icases HX with ⟨X5, X1, X4, X6, X0, X2, X3⟩
  ihave P5 : s2pre m ρ c 5 $$ [X5 L5 T5]
  · unfold s2pre
    isplitl [X5]; · iexact X5
    isplitl [L5]; · iexact L5
    iexact T5
  ihave P1 : s2pre m ρ c 1 $$ [X1 L1 T1]
  · unfold s2pre
    isplitl [X1]; · iexact X1
    isplitl [L1]; · iexact L1
    iexact T1
  ihave P4 : s2pre m ρ c 4 $$ [X4 L4 T4]
  · unfold s2pre
    isplitl [X4]; · iexact X4
    isplitl [L4]; · iexact L4
    iexact T4
  ihave P6 : s2pre m ρ c 6 $$ [X6 L6 T6]
  · unfold s2pre
    isplitl [X6]; · iexact X6
    isplitl [L6]; · iexact L6
    iexact T6
  ihave P0 : s2pre m ρ c 0 $$ [X0 L0 T0]
  · unfold s2pre
    isplitl [X0]; · iexact X0
    isplitl [L0]; · iexact L0
    iexact T0
  ihave P2 : s2pre m ρ c 2 $$ [X2 L2 T2]
  · unfold s2pre
    isplitl [X2]; · iexact X2
    isplitl [L2]; · iexact L2
    iexact T2
  ihave P3 : s2pre m ρ c 3 $$ [X3 L3 T3]
  · unfold s2pre
    isplitl [X3]; · iexact X3
    isplitl [L3]; · iexact L3
    iexact T3
  iapply (go_send2 m ρ K c 5 (d2 c 1 :: d2 c 4 :: d2 c 6 :: d2 c 0 :: d2 c 2 :: d2 c 3 :: []) (k0_dev15_eq c) rfl (acc_slice_eq (k0_off9_eq c)) (semS2 5 _) (semR2 5 _)) $$ [HO P5]
  · isplitr; · iexact HR
    isplitl [HO]; · iexact HO
    iexact P5
  iintro ⟨HO, P5⟩
  iapply (go_ret c)
  iapply Hk
  isplitl [HO]; · iexact HO
  isplitl [Sc]; · iexact Sc
  isplitl [S2]; · iexists _; iexact S2
  isplitl [S7]; · iexact S7
  isplitl [P5]; · iexact P5
  isplitl [P1]; · iexact P1
  isplitl [P4]; · iexact P4
  isplitl [P6]; · iexact P6
  isplitl [P0]; · iexact P0
  isplitl [P2]; · iexact P2
  iexact P3

end Parts

end Cert.KernelIdeal.Run

end
-- ==== Proof.KRunD.lean ====
/-
The parts of the body that gather the result and take back what was lent.
-/
module

public import proofs.«01_k».proof.Proof.KSplit

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pointwise

variable {F : FTy → Type} [FloatOps F] [Named F]

local notation "𝕄" => MT nD τ sig Unit (Elt F) ℕ UU ℕ

variable (m : (ℓ : Loc nD τ sig) → Buf (Elt F) ℓ) (ρ : Dev nD → PrngReg)

section Parts
variable (K : Dev nD × Fin 30 → ℕ)

/-- The rows are sent three more times. -/
theorem part15_run (c : Dev nD) (v2 v492 c0 : BitVec 32) {Q : _ → sProp 𝕄} :
    iprop(records m ρ K ∗ owesE (F := F) c (d2 c 1 :: d2 c 4 :: d2 c 6 :: d2 c 0 :: d2 c 2 :: d2 c 3 :: []) ∗ s2pre m ρ c 1 ∗ s2pre m ρ c 4 ∗ s2pre m ρ c 6)
      ⊢ iprop(((owesE (F := F) c (d2 c 0 :: d2 c 2 :: d2 c 3 :: []) ∗ s2post (F := F) c 1 ∗ s2post (F := F) c 4 ∗ s2post (F := F) c 6) -∗ Q ⟨⟩) -∗ run c (k0_part15 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 c v2 v492 c0) Q) := by
  rw [k0_part15_eq_skeleton]; unfold k0_part15_skel
  simp only [semSignalWord, semWaitWord, Prog.lift, Prog.bind_op, Prog.bind_ret, Prog.pure_eq_ret, wp_deviceId]
  iintro ⟨#HR, HO, P1, P4, P6⟩ Hk
  iapply (go_send2 m ρ K c 1 (d2 c 4 :: d2 c 6 :: d2 c 0 :: d2 c 2 :: d2 c 3 :: []) (k0_dev16_eq c) rfl (acc_slice_eq (k0_off9_eq c)) (semS2 1 _) (semR2 1 _)) $$ [HO P1]
  · isplitr; · iexact HR
    isplitl [HO]; · iexact HO
    iexact P1
  iintro ⟨HO, P1⟩
  iapply (go_send2 m ρ K c 4 (d2 c 6 :: d2 c 0 :: d2 c 2 :: d2 c 3 :: []) (k0_dev17_eq c) rfl (acc_slice_eq (k0_off9_eq c)) (semS2 4 _) (semR2 4 _)) $$ [HO P4]
  · isplitr; · iexact HR
    isplitl [HO]; · iexact HO
    iexact P4
  iintro ⟨HO, P4⟩
  iapply (go_send2 m ρ K c 6 (d2 c 0 :: d2 c 2 :: d2 c 3 :: []) (k0_dev18_eq c) rfl (acc_slice_eq (k0_off9_eq c)) (semS2 6 _) (semR2 6 _)) $$ [HO P6]
  · isplitr; · iexact HR
    isplitl [HO]; · iexact HO
    iexact P6
  iintro ⟨HO, P6⟩
  iapply (go_ret c)
  iapply Hk
  isplitl [HO]; · iexact HO
  isplitl [P1]; · iexact P1
  isplitl [P4]; · iexact P4
  iexact P6

/-- The rows are sent the last three times, and put in the device's own block of the result. -/
theorem part16_run (c : Dev nD) (v2 : BitVec 32) {Q : _ → sProp 𝕄} :
    iprop(records m ρ K ∗ owesE (F := F) c (d2 c 0 :: d2 c 2 :: d2 c 3 :: []) ∗ s2pre m ρ c 0 ∗ s2pre m ρ c 2 ∗ s2pre m ρ c 3 ∗ redPts c (Transfers.shareDrop fullShare 7) (redF m ρ c) ∗ (∃ f, accPts (F := F) c c f))
      ⊢ iprop((∀ v, (owesE (F := F) c ([]) ∗ s2post (F := F) c 0 ∗ s2post (F := F) c 2 ∗ s2post (F := F) c 3 ∗ redPts c (Transfers.shareDrop fullShare 7) (redF m ρ c) ∗ accPts c c (accF m ρ)) -∗ Q v) -∗ run c (k0_part16 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 c v2) Q) := by
  rw [k0_part16_eq_skeleton]; unfold k0_part16_skel
  simp only [semSignalWord, semWaitWord, Prog.lift, Prog.bind_op, Prog.bind_ret, Prog.pure_eq_ret, wp_deviceId]
  iintro ⟨#HR, HO, P0, P2, P3, S7, ⟨%f, Sa⟩⟩ Hk
  iapply (go_send2 m ρ K c 0 (d2 c 2 :: d2 c 3 :: []) (k0_dev19_eq c) rfl (acc_slice_eq (k0_off9_eq c)) (semS2 0 _) (semR2 0 _)) $$ [HO P0]
  · isplitr; · iexact HR
    isplitl [HO]; · iexact HO
    iexact P0
  iintro ⟨HO, P0⟩
  iapply (go_send2 m ρ K c 2 (d2 c 3 :: []) (k0_dev20_eq c) rfl (acc_slice_eq (k0_off9_eq c)) (semS2 2 _) (semR2 2 _)) $$ [HO P2]
  · isplitr; · iexact HR
    isplitl [HO]; · iexact HO
    iexact P2
  iintro ⟨HO, P2⟩
  iapply (go_send2 m ρ K c 3 ([]) (k0_dev21_eq c) rfl (acc_slice_eq (k0_off9_eq c)) (semS2 3 _) (semR2 3 _)) $$ [HO P3]
  · isplitr; · iexact HR
    isplitl [HO]; · iexact HO
    iexact P3
  iintro ⟨HO, P3⟩
  unfold redPts
  ihave Sa := (Entails.of_eq (acc_as c c f)) $$ Sa
  iapply (go_load c (M := Memref.whole cc0_scratch7) (in_view _ _) (redF m ρ c) (Memref.readAt_unit_zero (Elt F) cc0_scratch7 z2 _ _)) $$ S7
  iintro S7
  iapply (go_load c (M := accM) (S := (accRow c).view.set) (q := fullShare) (f := f) (acc_load_sub (k0_off10_eq c) _) _ rfl) $$ [Sa]
  · iexact Sa
  iintro Sa
  iapply (go_store c accM (Rect.unit (s := S256x512) (k0_off10 c) S32x512.size (k0_off10_inb c)) (accRow c).view.set (acc_access_set (k0_off10_eq c) _) (accF m ρ) (own_rows m ρ c (k0_off10_eq c) _)) $$ [Sa]
  · iexists _; iexact Sa
  iintro Sa
  ihave Sa := (Entails.of_eq (acc_as c c (accF m ρ)).symm) $$ Sa
  iapply (go_ret c)
  iapply Hk
  isplitl [HO]; · iexact HO
  isplitl [P0]; · iexact P0
  isplitl [P2]; · iexact P2
  isplitl [P3]; · iexact P3
  isplitl [S7]; · iexact S7
  iexact Sa

/-- Three blocks of the result have arrived. -/
theorem part17_run (c : Dev nD) (v2 v557 : BitVec 32) {Q : _ → sProp 𝕄} :
    iprop(records m ρ K ∗ levAts L lv ∗ owesE (F := F) c ([]) ∗ w2pre (F := F) c 5 ∗ w2pre (F := F) c 1 ∗ w2pre (F := F) c 4)
      ⊢ iprop(((owesE (F := F) c ([]) ∗ w2post m ρ c 5 ∗ w2post m ρ c 1 ∗ w2post m ρ c 4) -∗ Q ⟨⟩) -∗ run c (k0_part17 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 c v2 v557) Q) := by
  rw [k0_part17_eq_skeleton]; unfold k0_part17_skel
  simp only [semSignalWord, semWaitWord, Prog.lift, Prog.bind_op, Prog.bind_ret, Prog.pure_eq_ret, wp_deviceId]
  iintro ⟨#HR, #Hlev, HO, W5, W1, W4⟩ Hk
  iapply (go_w2 m ρ K c 5 ([]) (above_nil _) (semR2 5 _)) $$ [HO W5]
  · isplitr; · iexact HR
    isplitr; · iexact Hlev
    isplitl [HO]; · iexact HO
    iexact W5
  iintro ⟨HO, W5⟩
  iapply (go_w2 m ρ K c 1 ([]) (above_nil _) (semR2 1 _)) $$ [HO W1]
  · isplitr; · iexact HR
    isplitr; · iexact Hlev
    isplitl [HO]; · iexact HO
    iexact W1
  iintro ⟨HO, W1⟩
  iapply (go_w2 m ρ K c 4 ([]) (above_nil _) (semR2 4 _)) $$ [HO W4]
  · isplitr; · iexact HR
    isplitr; · iexact Hlev
    isplitl [HO]; · iexact HO
    iexact W4
  iintro ⟨HO, W4⟩
  iapply (go_ret c)
  iapply Hk
  isplitl [HO]; · iexact HO
  isplitl [W5]; · iexact W5
  isplitl [W1]; · iexact W1
  iexact W4

/-- Three more blocks of the result have arrived. -/
theorem part18_run (c : Dev nD) (v2 : BitVec 32) {Q : _ → sProp 𝕄} :
    iprop(records m ρ K ∗ levAts L lv ∗ owesE (F := F) c ([]) ∗ w2pre (F := F) c 6 ∗ w2pre (F := F) c 0 ∗ w2pre (F := F) c 2)
      ⊢ iprop((∀ v, (owesE (F := F) c ([]) ∗ w2post m ρ c 6 ∗ w2post m ρ c 0 ∗ w2post m ρ c 2) -∗ Q v) -∗ run c (k0_part18 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 c v2) Q) := by
  rw [k0_part18_eq_skeleton]; unfold k0_part18_skel
  simp only [semSignalWord, semWaitWord, Prog.lift, Prog.bind_op, Prog.bind_ret, Prog.pure_eq_ret, wp_deviceId]
  iintro ⟨#HR, #Hlev, HO, W6, W0, W2⟩ Hk
  iapply (go_w2 m ρ K c 6 ([]) (above_nil _) (semR2 6 _)) $$ [HO W6]
  · isplitr; · iexact HR
    isplitr; · iexact Hlev
    isplitl [HO]; · iexact HO
    iexact W6
  iintro ⟨HO, W6⟩
  iapply (go_w2 m ρ K c 0 ([]) (above_nil _) (semR2 0 _)) $$ [HO W0]
  · isplitr; · iexact HR
    isplitr; · iexact Hlev
    isplitl [HO]; · iexact HO
    iexact W0
  iintro ⟨HO, W0⟩
  iapply (go_w2 m ρ K c 2 ([]) (above_nil _) (semR2 2 _)) $$ [HO W2]
  · isplitr; · iexact HR
    isplitr; · iexact Hlev
    isplitl [HO]; · iexact HO
    iexact W2
  iintro ⟨HO, W2⟩
  iapply (go_ret c)
  iapply Hk
  isplitl [HO]; · iexact HO
  isplitl [W6]; · iexact W6
  isplitl [W0]; · iexact W0
  iexact W2

/-- The last block has arrived; the result is read whole, and its copy out begins; three of the blocks sent are back. -/
theorem part19_run (c : Dev nD) (v613 : BitVec 32) {Q : _ → sProp 𝕄} :
    iprop(records m ρ K ∗ levAts L lv ∗ owesE (F := F) c ([]) ∗ w2pre (F := F) c 3 ∗ w2post m ρ c 5 ∗ w2post m ρ c 1 ∗ w2post m ρ c 4 ∗ w2post m ρ c 6 ∗ w2post m ρ c 0 ∗ w2post m ρ c 2 ∗ accPts c c (accF m ρ) ∗ anyPts (F := F) c (Memref.whole cc0_scratch4) ∗ anyPts (F := F) c (Memref.whole main_v1) ∗ semVal ((c : Thread nD τ), .dma (sW 2)) 0 ∗ b1pre (F := F) c 5 ∗ b1pre (F := F) c 1 ∗ b1pre (F := F) c 4)
      ⊢ iprop(((owesE (F := F) c ([]) ∗ pts c accM fullShare (accF m ρ) ∗ (bigSep Finset.univ fun r : Fin 7 => semVal (recv2Cell c r) 0) ∗ flR m ρ c ∗ b1post m ρ c 5 ∗ b1post m ρ c 1 ∗ b1post m ρ c 4) -∗ Q ⟨⟩) -∗ run c (k0_part19 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 c v613) Q) := by
  rw [k0_part19_eq_skeleton]; unfold k0_part19_skel
  simp only [semSignalWord, semWaitWord, Prog.lift, Prog.bind_op, Prog.bind_ret, Prog.pure_eq_ret, wp_deviceId]
  iintro ⟨#HR, #Hlev, HO, W3, W5, W1, W4, W6, W0, W2, Sa, ⟨%f, S4⟩, Hv, V2, Y5, Y1, Y4⟩ Hk
  iapply (go_w2 m ρ K c 3 ([]) (above_nil _) (semR2 3 _)) $$ [HO W3]
  · isplitr; · iexact HR
    isplitr; · iexact Hlev
    isplitl [HO]; · iexact HO
    iexact W3
  iintro ⟨HO, W3⟩
  unfold w2post
  icases W5 with ⟨W5, Z5⟩
  icases W1 with ⟨W1, Z1⟩
  icases W4 with ⟨W4, Z4⟩
  icases W6 with ⟨W6, Z6⟩
  icases W0 with ⟨W0, Z0⟩
  icases W2 with ⟨W2, Z2⟩
  icases W3 with ⟨W3, Z3⟩
  ihave Sa := (Entails.of_eq ((acc_split c (accF m ρ)).trans ((around_bwd c _).trans (congrArg (fun X => iprop(accPts c c (accF m ρ) ∗ X)) (seven _)))).symm) $$ [Sa W5 W1 W4 W6 W0 W2 W3]
  · isplitl [Sa]; · iexact Sa
    isplitl [W5]; · iexact W5
    isplitl [W1]; · iexact W1
    isplitl [W4]; · iexact W4
    isplitl [W6]; · iexact W6
    isplitl [W0]; · iexact W0
    isplitl [W2]; · iexact W2
    iexact W3
  ihave Hz := (Entails.of_eq (seven fun r : Fin 7 => (semVal (recv2Cell c r) 0 : sProp 𝕄)).symm) $$ [Z5 Z1 Z4 Z6 Z0 Z2 Z3]
  · isplitl [Z5]; · iexact Z5
    isplitl [Z1]; · iexact Z1
    isplitl [Z4]; · iexact Z4
    isplitl [Z6]; · iexact Z6
    isplitl [Z0]; · iexact Z0
    isplitl [Z2]; · iexact Z2
    iexact Z3
  iapply (go_load c (M := Memref.whole cc0_scratch8) (in_view _ _) (accF m ρ) (Memref.readAt_unit_zero (Elt F) cc0_scratch8 z2 _ _)) $$ Sa
  iintro Sa
  iapply (go_load c (M := Memref.whole cc0_scratch4) (in_view _ _) _ rfl) $$ S4
  iintro S4
  iapply (go_store c (Memref.whole cc0_scratch4) (Rect.unit (s := S2x128x512) ![0, 0, 0] S2x128x512.size inb_S2x128x512_S2x128x512_0_0_0) (Memref.whole cc0_scratch4 : Memref sig .tc _ _ _).view.set (whole_access_set cc0_scratch4 z3 _) (outF m ρ) (Memref.readAt_unit_zero (Elt F) cc0_scratch4 z3 _ (outF m ρ))) $$ [S4]
  · iexists _; iexact S4
  iintro S4
  iapply (go_copy (F := F) c (outF m ρ) (hr_copy m ρ c) (semW 2 _) n_x) $$ [S4 Hv V2]
  · isplitl [S4]; · iexact S4
    isplitl [Hv]; · iexact Hv
    iexact V2
  iintro FR
  iapply (go_b1 m ρ K c 5 ([]) (above_nil _) (semS1 5 _)) $$ [HO Y5]
  · isplitr; · iexact HR
    isplitr; · iexact Hlev
    isplitl [HO]; · iexact HO
    iexact Y5
  iintro ⟨HO, Y5⟩
  iapply (go_b1 m ρ K c 1 ([]) (above_nil _) (semS1 1 _)) $$ [HO Y1]
  · isplitr; · iexact HR
    isplitr; · iexact Hlev
    isplitl [HO]; · iexact HO
    iexact Y1
  iintro ⟨HO, Y1⟩
  iapply (go_b1 m ρ K c 4 ([]) (above_nil _) (semS1 4 _)) $$ [HO Y4]
  · isplitr; · iexact HR
    isplitr; · iexact Hlev
    isplitl [HO]; · iexact HO
    iexact Y4
  iintro ⟨HO, Y4⟩
  unfold flR
  iapply (go_ret c)
  iapply Hk
  isplitl [HO]; · iexact HO
  isplitl [Sa]; · iexact Sa
  isplitl [Hz]; · iexact Hz
  isplitl [FR]; · iexact FR
  isplitl [Y5]; · iexact Y5
  isplitl [Y1]; · iexact Y1
  iexact Y4

/-- The other four blocks sent are back, and two shares of the finished rows. -/
theorem part20_run (c : Dev nD) {Q : _ → sProp 𝕄} :
    iprop(records m ρ K ∗ levAts L lv ∗ owesE (F := F) c ([]) ∗ b1pre (F := F) c 6 ∗ b1pre (F := F) c 0 ∗ b1pre (F := F) c 2 ∗ b1pre (F := F) c 3 ∗ b2pre (F := F) c 5 ∗ b2pre (F := F) c 1)
      ⊢ iprop(((owesE (F := F) c ([]) ∗ b1post m ρ c 6 ∗ b1post m ρ c 0 ∗ b1post m ρ c 2 ∗ b1post m ρ c 3 ∗ b2post m ρ c 5 ∗ b2post m ρ c 1) -∗ Q ⟨⟩) -∗ run c (k0_part20 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 c) Q) := by
  rw [k0_part20_eq_skeleton]; unfold k0_part20_skel
  simp only [semSignalWord, semWaitWord, Prog.lift, Prog.bind_op, Prog.bind_ret, Prog.pure_eq_ret, wp_deviceId]
  iintro ⟨#HR, #Hlev, HO, Y6, Y0, Y2, Y3, X5, X1⟩ Hk
  iapply (go_b1 m ρ K c 6 ([]) (above_nil _) (semS1 6 _)) $$ [HO Y6]
  · isplitr; · iexact HR
    isplitr; · iexact Hlev
    isplitl [HO]; · iexact HO
    iexact Y6
  iintro ⟨HO, Y6⟩
  iapply (go_b1 m ρ K c 0 ([]) (above_nil _) (semS1 0 _)) $$ [HO Y0]
  · isplitr; · iexact HR
    isplitr; · iexact Hlev
    isplitl [HO]; · iexact HO
    iexact Y0
  iintro ⟨HO, Y0⟩
  iapply (go_b1 m ρ K c 2 ([]) (above_nil _) (semS1 2 _)) $$ [HO Y2]
  · isplitr; · iexact HR
    isplitr; · iexact Hlev
    isplitl [HO]; · iexact HO
    iexact Y2
  iintro ⟨HO, Y2⟩
  iapply (go_b1 m ρ K c 3 ([]) (above_nil _) (semS1 3 _)) $$ [HO Y3]
  · isplitr; · iexact HR
    isplitr; · iexact Hlev
    isplitl [HO]; · iexact HO
    iexact Y3
  iintro ⟨HO, Y3⟩
  iapply (go_b2 m ρ K c 5 ([]) (above_nil _) (semS2 5 _)) $$ [HO X5]
  · isplitr; · iexact HR
    isplitr; · iexact Hlev
    isplitl [HO]; · iexact HO
    iexact X5
  iintro ⟨HO, X5⟩
  iapply (go_b2 m ρ K c 1 ([]) (above_nil _) (semS2 1 _)) $$ [HO X1]
  · isplitr; · iexact HR
    isplitr; · iexact Hlev
    isplitl [HO]; · iexact HO
    iexact X1
  iintro ⟨HO, X1⟩
  iapply (go_ret c)
  iapply Hk
  isplitl [HO]; · iexact HO
  isplitl [Y6]; · iexact Y6
  isplitl [Y0]; · iexact Y0
  isplitl [Y2]; · iexact Y2
  isplitl [Y3]; · iexact Y3
  isplitl [X5]; · iexact X5
  iexact X1

end Parts

end Cert.KernelIdeal.Run

end
-- ==== Proof.KBody.lean ====
/-
A device's whole run, from the runs of its parts.
-/
module

public import proofs.«01_k».proof.Proof.KRunA
public import proofs.«01_k».proof.Proof.KRunB
public import proofs.«01_k».proof.Proof.KRunC
public import proofs.«01_k».proof.Proof.KRunD

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pointwise

variable {F : FTy → Type} [FloatOps F] [Named F]

local notation "𝕄" => MT nD τ sig Unit (Elt F) ℕ UU ℕ

variable (m : (ℓ : Loc nD τ sig) → Buf (Elt F) ℓ) (ρ : Dev nD → PrngReg)

section Whole
variable (K : Dev nD × Fin 30 → ℕ)

/-- A program at its end, with a view shift still to do. -/
theorem go_last {α : Type} {c : Dev nD} {Q : α → sProp 𝕄} (a : α) : (iprop(|={Set.univ}=> Q a) : sProp 𝕄) ⊢ run c (.ret a) Q := by
  show iprop(|={Set.univ}=> Q a) ⊢ wp frame (wpE (defs₀ (F := F)) 𝒱₀ (c : Thread nD τ) none) Set.univ (.ret a) Q
  rw [wp_ret]

/-- A device's copy of the query projection: its own columns, and the others. -/
theorem arg1_split (c : Dev nD) (f : Buf (Elt F) ((Memref.whole main_arg1 : Memref sig .tc _ _ _).view.loc (c : Thread nD τ))) :
    (pts c (Memref.whole main_arg1) fullShare f : sProp 𝕄) ⊣⊢ iprop(pts c (wqM c) fullShare f ∗
      (Memref.whole main_arg1 : Memref sig .tc _ _ _).view.loc (c : Thread nD τ) ↦[(Memref.whole main_arg1 : Memref sig .tc _ _ _).view.set \ (wqM c).view.set]{fullShare} f) :=
  pointsTo_split_subset (View.set_slice_subset _ _)

/-- The blocks of buffers a device lends with its signals. -/
theorem sig_family (c : Dev nD) :
    iprop(anyPts (F := F) c commM ∗ anyPts (F := F) c accM ∗ (bigSep Finset.univ fun r : Fin 7 => dutyTok ER (barCell (fwd c r)) 0 (rev r)))
      ⊢ (iprop((∃ f, commPts (F := F) c c f) ∗ (∃ f, accPts (F := F) c c f) ∗ (bigSep Finset.univ fun r : Fin 7 => sigB (F := F) c r)) : sProp 𝕄) := by
  unfold sigB
  iintro ⟨Hc, Ha, Ht⟩
  ihave Hc := (comm_any c) $$ Hc
  ihave Hc := (Entails.of_eq (around_fwd c fun t => iprop(∃ f, commPts (F := F) c t f))) $$ Hc
  icases Hc with ⟨Hc, Hcs⟩
  ihave Ha := (acc_any c) $$ Ha
  ihave Ha := (Entails.of_eq (around_fwd c fun t => iprop(∃ f, accPts (F := F) c t f))) $$ Ha
  icases Ha with ⟨Ha, Has⟩
  isplitl [Hc]; · iexact Hc
  isplitl [Ha]; · iexact Ha
  rw [bigSep_sep', bigSep_sep']
  isplitl [Ht]; · iexact Ht
  isplitl [Hcs]; · iexact Hcs
  iexact Has

/-- The keys and the values are read where they were staged. -/
theorem part3_run (c : Dev nD) {Q : _ → sProp 𝕄} :
    iprop(pts c (Memref.whole cc0_stg0_0) fullShare (kAt m ρ c) ∗ pts c (Memref.whole cc0_stg1_0) fullShare (vAt m ρ c))
      ⊢ iprop(((pts c (Memref.whole cc0_stg0_0) fullShare (kAt m ρ c) ∗ pts c (Memref.whole cc0_stg1_0) fullShare (vAt m ρ c)) -∗ Q ⟨k0_pay2 (kAt m ρ c), k0_pay3 (vAt m ρ c), rowI, colI, k0_pay4, 128#32, k0_pay5, k0_pay6, Scalar.extui (Scalar.cmpi .sgt 128#32 0#32), Scalar.cmpi .slt 128#32 0#32⟩) -∗ run c (k0_part3 (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13) Q) := by
  rw [k0_part3_eq_skeleton]; unfold k0_part3_skel
  simp only [Prog.lift, Prog.bind_op, Prog.bind_ret, Prog.pure_eq_ret]
  unfold rowI colI
  iintro ⟨H0, H1⟩ Hk
  iapply (go_load c (M := Memref.whole cc0_stg0_0) (in_view _ _) (kAt m ρ c) (Memref.readAt_unit_zero (Elt F) cc0_stg0_0 z4 _ _)) $$ H0
  iintro H0
  iapply (go_load c (M := Memref.whole cc0_stg1_0) (in_view _ _) (vAt m ρ c) (Memref.readAt_unit_zero (Elt F) cc0_stg1_0 z4 _ _)) $$ H1
  iintro H1
  iapply (go_ret c)
  iapply Hk
  isplitl [H0]; · iexact H0
  iexact H1

set_option maxHeartbeats 4000000 in
/-- A WHOLE RUN of a device's program: what it starts with, and what it leaves. -/
theorem body_run (c : Dev nD) {Q : PUnit → sProp 𝕄} :
    iprop(records m ρ K ∗ levAts L lv ∗ owesE (F := F) c (duesS c) ∗ atPos ER (barCell c) 0 ∅ 0 ∗ (bigSep Finset.univ fun r : Fin 7 => atPos ER (send1Cell c r) 0 ∅ 0) ∗ (bigSep Finset.univ fun j : Fin 8 => atPos ER (recv1Cell c j) 0 ∅ 0) ∗ (bigSep Finset.univ fun r : Fin 7 => atPos ER (send2Cell c r) 0 ∅ 0) ∗ (bigSep Finset.univ fun r : Fin 7 => atPos ER (recv2Cell c r) 0 ∅ 0) ∗ (bigSep Finset.univ fun r : Fin 7 => dutyTok ER (barCell (fwd c r)) 0 (rev r)) ∗ (bigSep Finset.univ fun r : Fin 7 => tok1B (F := F) c r) ∗ (bigSep Finset.univ fun r : Fin 7 => tok2B (F := F) c r) ∗ cred (tallyAt (barCell c) () 7) ∗ (bigSep Finset.univ fun r : Fin 7 => cred (tallyAt (recv1Cell c (bwd c r)) () N1)) ∗ (bigSep Finset.univ fun r : Fin 7 => cred (tallyAt (recv2Cell c r) () N2)) ∗ pts c (Memref.whole main_arg0) fullShare (m ((c : Thread nD τ).loc main_arg0)) ∗ pts c (Memref.whole main_arg1) fullShare (m ((c : Thread nD τ).loc main_arg1)) ∗ pts c (Memref.whole main_arg4) fullShare (m ((c : Thread nD τ).loc main_arg4)) ∗ anyPts (F := F) c (Memref.whole main_v1) ∗ pts c (Memref.whole cc0_stg0_0) fullShare (kAt m ρ c) ∗ pts c (Memref.whole cc0_stg1_0) fullShare (vAt m ρ c) ∗ anyPts (F := F) c (Memref.whole cc0_scratch0) ∗ anyPts (F := F) c (Memref.whole cc0_scratch1) ∗ anyPts (F := F) c (Memref.whole cc0_scratch2) ∗ anyPts (F := F) c (Memref.whole cc0_scratch3) ∗ anyPts (F := F) c (Memref.whole cc0_scratch4) ∗ anyPts (F := F) c (Memref.whole cc0_scratch5) ∗ anyPts (F := F) c (Memref.whole cc0_scratch6) ∗ anyPts (F := F) c (Memref.whole cc0_scratch7) ∗ anyPts (F := F) c (Memref.whole cc0_scratch8) ∗ semVal ((c : Thread nD τ), .dma (sW 0)) 0 ∗ semVal ((c : Thread nD τ), .dma (sW 1)) 0 ∗ semVal ((c : Thread nD τ), .dma (sW 2)) 0)
      ⊢ iprop(((owesE (F := F) c [] ∗ pts c (Memref.whole main_arg0) fullShare (m ((c : Thread nD τ).loc main_arg0)) ∗ pts c (Memref.whole main_arg1) fullShare (m ((c : Thread nD τ).loc main_arg1)) ∗ pts c (Memref.whole main_arg4) fullShare (m ((c : Thread nD τ).loc main_arg4)) ∗ pts c (Memref.whole main_v1) fullShare (outF m ρ) ∗ pts c (Memref.whole cc0_stg0_0) fullShare (kAt m ρ c) ∗ pts c (Memref.whole cc0_stg1_0) fullShare (vAt m ρ c) ∗ anyPts (F := F) c (Memref.whole cc0_scratch0) ∗ anyPts (F := F) c (Memref.whole cc0_scratch1) ∗ anyPts (F := F) c (Memref.whole cc0_scratch2) ∗ anyPts (F := F) c (Memref.whole cc0_scratch3) ∗ anyPts (F := F) c (Memref.whole cc0_scratch4) ∗ anyPts (F := F) c (Memref.whole cc0_scratch5) ∗ anyPts (F := F) c (Memref.whole cc0_scratch6) ∗ anyPts (F := F) c (Memref.whole cc0_scratch7) ∗ anyPts (F := F) c (Memref.whole cc0_scratch8) ∗ semVal ((c : Thread nD τ), .dma (sW 0)) 0 ∗ semVal ((c : Thread nD τ), .dma (sW 1)) 0 ∗ semVal ((c : Thread nD τ), .dma (sW 2)) 0 ∗ semVal (barCell c) 0 ∗ (bigSep Finset.univ fun r : Fin 7 => semVal (send1Cell c r) 0) ∗ (bigSep Finset.univ fun j : Fin 8 => semVal (recv1Cell c j) 0) ∗ (bigSep Finset.univ fun r : Fin 7 => semVal (send2Cell c r) 0) ∗ (bigSep Finset.univ fun r : Fin 7 => semVal (recv2Cell c r) 0)) -∗ Q ⟨⟩) -∗ run c (cc0_body (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13) Q) := by
  rw [cc0_body_eq_skeleton]; unfold cc0_body_skel; rw [k0_part21_eq_skeleton]; unfold k0_part21_skel
  simp only [wp_bind]
  iintro ⟨#HR, #Hlev, HO, Ab, As1, Ar1, As2, Ar2, Tb, T1, T2, Cb, Cr1, Cr2, H0, H1, H4, Hv, G0, G1, S0, S1, S2, S3, S4, S5, S6, S7, S8, V0, V1, V2⟩ Hk
  ihave Hs := (sig_family c) $$ [S6 S8 Tb]
  · isplitl [S6]; · iexact S6
    isplitl [S8]; · iexact S8
    iexact Tb
  icases Hs with ⟨Sc, Sa, Hs⟩
  ihave Hs := (Entails.of_eq (seven fun r => sigB (F := F) c r)) $$ Hs
  icases Hs with ⟨B5, B1, B4, B6, B0, B2, B3⟩
  ihave H1 := (arg1_split c _).1 $$ H1
  icases H1 with ⟨H1, H1r⟩
  iapply (part1_run m ρ K c) $$ [HO B5 B1 B4 H0 H1 H4 S3 S0 S1 V0 V1 V2]
  · isplitr; · iexact HR
    isplitl [HO]; · iexact HO
    isplitl [B5]; · iexact B5
    isplitl [B1]; · iexact B1
    isplitl [B4]; · iexact B4
    isplitl [H0]; · iexact H0
    isplitl [H1]; · iexact H1
    isplitl [H4]; · iexact H4
    isplitl [S3]; · iexact S3
    isplitl [S0]; · iexact S0
    isplitl [S1]; · iexact S1
    isplitl [V0]; · iexact V0
    isplitl [V1]; · iexact V1
    iexact V2
  iintro %v2 %v26 ⟨HO, FX, FQ, FO⟩
  dsimp only
  iapply (part2_run m ρ K c v2 v26) $$ [HO B6 B0 B2 B3 FX FQ]
  · isplitr; · iexact HR
    isplitr; · iexact Hlev
    isplitl [HO]; · iexact HO
    isplitl [B6]; · iexact B6
    isplitl [B0]; · iexact B0
    isplitl [B2]; · iexact B2
    isplitl [B3]; · iexact B3
    isplitl [FX]; · iexact FX
    iexact FQ
  iintro ⟨HO, H0, H1, S3, S0, V0, V2⟩
  iapply (part3_run m ρ c) $$ [G0 G1]
  · isplitl [G0]; · iexact G0
    iexact G1
  iintro ⟨G0, G1⟩
  dsimp only
  rw [k0_part4_eq_skeleton]; unfold k0_part4_skel
  iapply (go_ret c)
  dsimp only
  rw [k0_part5_eq_skeleton]; unfold k0_part5_skel
  iapply (go_ret c)
  dsimp only
  rw [k0_part6_eq_skeleton]; unfold k0_part6_skel
  iapply (go_ret c)
  dsimp only
  rw [k0_part7_eq_skeleton]; unfold k0_part7_skel
  iapply (go_ret c)
  have P8 := fun Q => part8_run (Q := Q) m ρ K c v2
  unfold heads msk1 msk2 msk3 msk4 msk5 at P8
  iapply (P8 _) $$ [HO S5 Sc Cb Ab T1]
  · isplitr; · iexact HR
    isplitr; · iexact Hlev
    isplitl [HO]; · iexact HO
    isplitl [S5]; · iexact S5
    isplitl [Sc]; · iexact Sc
    isplitl [Cb]; · iexact Cb
    isplitl [Ab]; · iexact Ab
    iexact T1
  iintro ⟨HO, Sx, Sc, Vb, P5, P1, P4, P6, P0, P2, P3⟩
  iapply (part9_run m ρ K c v2) $$ [HO P1 P4 P6]
  · isplitr; · iexact HR
    isplitl [HO]; · iexact HO
    isplitl [P1]; · iexact P1
    isplitl [P4]; · iexact P4
    iexact P6
  iintro %x1 %x2 ⟨HO, P1, P4, P6⟩
  dsimp only
  iapply (part10_run m ρ K c v2 x1 x2) $$ [HO P0 P2 P3 FO]
  · isplitr; · iexact HR
    isplitr; · iexact Hlev
    isplitl [HO]; · iexact HO
    isplitl [P0]; · iexact P0
    isplitl [P2]; · iexact P2
    isplitl [P3]; · iexact P3
    iexact FO
  iintro ⟨HO, P0, P2, P3, S1, H4, V1⟩
  ihave Ar1 := (Entails.of_eq (around_bwd c fun j : Fin 8 => (atPos ER (recv1Cell c j) 0 ∅ 0 : sProp 𝕄))) $$ Ar1
  icases Ar1 with ⟨Ac, Ar1⟩
  ihave Cr1 := (Entails.of_eq (seven fun r : Fin 7 => (cred (tallyAt (recv1Cell c (bwd c r)) () N1) : sProp 𝕄))) $$ Cr1
  icases Cr1 with ⟨Cr15, Cr11, Cr14, Cr16, Cr10, Cr12, Cr13⟩
  ihave Ar1 := (Entails.of_eq (seven fun r : Fin 7 => (atPos ER (recv1Cell c (bwd c r)) 0 ∅ 0 : sProp 𝕄))) $$ Ar1
  icases Ar1 with ⟨Ar15, Ar11, Ar14, Ar16, Ar10, Ar12, Ar13⟩
  ihave W5 : w1pre (F := F) c 5 $$ [Cr15 Ar15]
  · unfold w1pre
    isplitl [Cr15]; · iexact Cr15
    iexact Ar15
  ihave W1 : w1pre (F := F) c 1 $$ [Cr11 Ar11]
  · unfold w1pre
    isplitl [Cr11]; · iexact Cr11
    iexact Ar11
  ihave W4 : w1pre (F := F) c 4 $$ [Cr14 Ar14]
  · unfold w1pre
    isplitl [Cr14]; · iexact Cr14
    iexact Ar14
  ihave W6 : w1pre (F := F) c 6 $$ [Cr16 Ar16]
  · unfold w1pre
    isplitl [Cr16]; · iexact Cr16
    iexact Ar16
  ihave W0 : w1pre (F := F) c 0 $$ [Cr10 Ar10]
  · unfold w1pre
    isplitl [Cr10]; · iexact Cr10
    iexact Ar10
  ihave W2 : w1pre (F := F) c 2 $$ [Cr12 Ar12]
  · unfold w1pre
    isplitl [Cr12]; · iexact Cr12
    iexact Ar12
  ihave W3 : w1pre (F := F) c 3 $$ [Cr13 Ar13]
  · unfold w1pre
    isplitl [Cr13]; · iexact Cr13
    iexact Ar13
  iapply (part11_run m ρ K c v2) $$ [HO S1 S2 W5 W1]
  · isplitr; · iexact HR
    isplitr; · iexact Hlev
    isplitl [HO]; · iexact HO
    isplitl [S1]; · iexact S1
    isplitl [S2]; · iexact S2
    isplitl [W5]; · iexact W5
    iexact W1
  iintro %x3 ⟨HO, S1, S2, W5, W1⟩
  iapply (part12_run m ρ K c v2 x3) $$ [HO W4 W6 W0]
  · isplitr; · iexact HR
    isplitr; · iexact Hlev
    isplitl [HO]; · iexact HO
    isplitl [W4]; · iexact W4
    isplitl [W6]; · iexact W6
    iexact W0
  iintro %x4 %x5 ⟨HO, W4, W6, W0⟩
  dsimp only
  iapply (part13_run m ρ K c v2 x4 x5) $$ [HO W2 W3 W5 W1 W4 W6 W0 Sc]
  · isplitr; · iexact HR
    isplitr; · iexact Hlev
    isplitl [HO]; · iexact HO
    isplitl [W2]; · iexact W2
    isplitl [W3]; · iexact W3
    isplitl [W5]; · iexact W5
    isplitl [W1]; · iexact W1
    isplitl [W4]; · iexact W4
    isplitl [W6]; · iexact W6
    isplitl [W0]; · iexact W0
    iexact Sc
  iintro ⟨HO, Sc, Vr1⟩
  dsimp only
  unfold s1post
  icases P5 with ⟨C5, P5⟩
  icases P1 with ⟨C1, P1⟩
  icases P4 with ⟨C4, P4⟩
  icases P6 with ⟨C6, P6⟩
  icases P0 with ⟨C0, P0⟩
  icases P2 with ⟨C2, P2⟩
  icases P3 with ⟨C3, P3⟩
  ihave HL := (Entails.of_eq (seven fun r : Fin 7 => (lent (F := F) c r : sProp 𝕄)).symm) $$ [P5 P1 P4 P6 P0 P2 P3]
  · isplitl [P5]; · iexact P5
    isplitl [P1]; · iexact P1
    isplitl [P4]; · iexact P4
    isplitl [P6]; · iexact P6
    isplitl [P0]; · iexact P0
    isplitl [P2]; · iexact P2
    iexact P3
  iapply (part14_run m ρ K c v2) $$ [HO Sc S2 S7 HL T2]
  · isplitr; · iexact HR
    isplitl [HO]; · iexact HO
    isplitl [Sc]; · iexact Sc
    isplitl [S2]; · iexact S2
    isplitl [S7]; · iexact S7
    isplitl [HL]; · iexact HL
    iexact T2
  iintro %x6 %x7 ⟨HO, Sc, S2, S7, D5, D1, D4, D6, D0, D2, D3⟩
  dsimp only
  iapply (part15_run m ρ K c v2 x6 x7) $$ [HO D1 D4 D6]
  · isplitr; · iexact HR
    isplitl [HO]; · iexact HO
    isplitl [D1]; · iexact D1
    isplitl [D4]; · iexact D4
    iexact D6
  iintro ⟨HO, D1, D4, D6⟩
  iapply (part16_run m ρ K c v2) $$ [HO D0 D2 D3 S7 Sa]
  · isplitr; · iexact HR
    isplitl [HO]; · iexact HO
    isplitl [D0]; · iexact D0
    isplitl [D2]; · iexact D2
    isplitl [D3]; · iexact D3
    isplitl [S7]; · iexact S7
    iexact Sa
  iintro %x8 ⟨HO, D0, D2, D3, S7, Sa⟩
  ihave Cr2 := (Entails.of_eq (seven fun r : Fin 7 => (cred (tallyAt (recv2Cell c r) () N2) : sProp 𝕄))) $$ Cr2
  icases Cr2 with ⟨Cr25, Cr21, Cr24, Cr26, Cr20, Cr22, Cr23⟩
  ihave Ar2 := (Entails.of_eq (seven fun r : Fin 7 => (atPos ER (recv2Cell c r) 0 ∅ 0 : sProp 𝕄))) $$ Ar2
  icases Ar2 with ⟨Ar25, Ar21, Ar24, Ar26, Ar20, Ar22, Ar23⟩
  ihave W5 : w2pre (F := F) c 5 $$ [Cr25 Ar25]
  · unfold w2pre
    isplitl [Cr25]; · iexact Cr25
    iexact Ar25
  ihave W1 : w2pre (F := F) c 1 $$ [Cr21 Ar21]
  · unfold w2pre
    isplitl [Cr21]; · iexact Cr21
    iexact Ar21
  ihave W4 : w2pre (F := F) c 4 $$ [Cr24 Ar24]
  · unfold w2pre
    isplitl [Cr24]; · iexact Cr24
    iexact Ar24
  ihave W6 : w2pre (F := F) c 6 $$ [Cr26 Ar26]
  · unfold w2pre
    isplitl [Cr26]; · iexact Cr26
    iexact Ar26
  ihave W0 : w2pre (F := F) c 0 $$ [Cr20 Ar20]
  · unfold w2pre
    isplitl [Cr20]; · iexact Cr20
    iexact Ar20
  ihave W2 : w2pre (F := F) c 2 $$ [Cr22 Ar22]
  · unfold w2pre
    isplitl [Cr22]; · iexact Cr22
    iexact Ar22
  ihave W3 : w2pre (F := F) c 3 $$ [Cr23 Ar23]
  · unfold w2pre
    isplitl [Cr23]; · iexact Cr23
    iexact Ar23
  iapply (part17_run m ρ K c v2 x8) $$ [HO W5 W1 W4]
  · isplitr; · iexact HR
    isplitr; · iexact Hlev
    isplitl [HO]; · iexact HO
    isplitl [W5]; · iexact W5
    isplitl [W1]; · iexact W1
    iexact W4
  iintro ⟨HO, W5, W1, W4⟩
  iapply (part18_run m ρ K c v2) $$ [HO W6 W0 W2]
  · isplitr; · iexact HR
    isplitr; · iexact Hlev
    isplitl [HO]; · iexact HO
    isplitl [W6]; · iexact W6
    isplitl [W0]; · iexact W0
    iexact W2
  iintro %x9 ⟨HO, W6, W0, W2⟩
  ihave As1 := (Entails.of_eq (seven fun r : Fin 7 => (atPos ER (send1Cell c r) 0 ∅ 0 : sProp 𝕄))) $$ As1
  icases As1 with ⟨As15, As11, As14, As16, As10, As12, As13⟩
  ihave Y5 : b1pre (F := F) c 5 $$ [C5 As15]
  · unfold b1pre
    isplitl [C5]; · iexact C5
    iexact As15
  ihave Y1 : b1pre (F := F) c 1 $$ [C1 As11]
  · unfold b1pre
    isplitl [C1]; · iexact C1
    iexact As11
  ihave Y4 : b1pre (F := F) c 4 $$ [C4 As14]
  · unfold b1pre
    isplitl [C4]; · iexact C4
    iexact As14
  ihave Y6 : b1pre (F := F) c 6 $$ [C6 As16]
  · unfold b1pre
    isplitl [C6]; · iexact C6
    iexact As16
  ihave Y0 : b1pre (F := F) c 0 $$ [C0 As10]
  · unfold b1pre
    isplitl [C0]; · iexact C0
    iexact As10
  ihave Y2 : b1pre (F := F) c 2 $$ [C2 As12]
  · unfold b1pre
    isplitl [C2]; · iexact C2
    iexact As12
  ihave Y3 : b1pre (F := F) c 3 $$ [C3 As13]
  · unfold b1pre
    isplitl [C3]; · iexact C3
    iexact As13
  unfold s2post
  ihave As2 := (Entails.of_eq (seven fun r : Fin 7 => (atPos ER (send2Cell c r) 0 ∅ 0 : sProp 𝕄))) $$ As2
  icases As2 with ⟨As25, As21, As24, As26, As20, As22, As23⟩
  ihave X5 : b2pre (F := F) c 5 $$ [D5 As25]
  · unfold b2pre
    isplitl [D5]; · iexact D5
    iexact As25
  ihave X1 : b2pre (F := F) c 1 $$ [D1 As21]
  · unfold b2pre
    isplitl [D1]; · iexact D1
    iexact As21
  ihave X4 : b2pre (F := F) c 4 $$ [D4 As24]
  · unfold b2pre
    isplitl [D4]; · iexact D4
    iexact As24
  ihave X6 : b2pre (F := F) c 6 $$ [D6 As26]
  · unfold b2pre
    isplitl [D6]; · iexact D6
    iexact As26
  ihave X0 : b2pre (F := F) c 0 $$ [D0 As20]
  · unfold b2pre
    isplitl [D0]; · iexact D0
    iexact As20
  ihave X2 : b2pre (F := F) c 2 $$ [D2 As22]
  · unfold b2pre
    isplitl [D2]; · iexact D2
    iexact As22
  ihave X3 : b2pre (F := F) c 3 $$ [D3 As23]
  · unfold b2pre
    isplitl [D3]; · iexact D3
    iexact As23
  iapply (part19_run m ρ K c x9) $$ [HO W3 W5 W1 W4 W6 W0 W2 Sa S4 Hv V2 Y5 Y1 Y4]
  · isplitr; · iexact HR
    isplitr; · iexact Hlev
    isplitl [HO]; · iexact HO
    isplitl [W3]; · iexact W3
    isplitl [W5]; · iexact W5
    isplitl [W1]; · iexact W1
    isplitl [W4]; · iexact W4
    isplitl [W6]; · iexact W6
    isplitl [W0]; · iexact W0
    isplitl [W2]; · iexact W2
    isplitl [Sa]; · iexact Sa
    isplitl [S4]; · iexact S4
    isplitl [Hv]; · iexact Hv
    isplitl [V2]; · iexact V2
    isplitl [Y5]; · iexact Y5
    isplitl [Y1]; · iexact Y1
    iexact Y4
  iintro ⟨HO, Sa, Vr2, FR, Y5, Y1, Y4⟩
  iapply (part20_run m ρ K c) $$ [HO Y6 Y0 Y2 Y3 X5 X1]
  · isplitr; · iexact HR
    isplitr; · iexact Hlev
    isplitl [HO]; · iexact HO
    isplitl [Y6]; · iexact Y6
    isplitl [Y0]; · iexact Y0
    isplitl [Y2]; · iexact Y2
    isplitl [Y3]; · iexact Y3
    isplitl [X5]; · iexact X5
    iexact X1
  iintro ⟨HO, Y6, Y0, Y2, Y3, X5, X1⟩
  simp only [← wp_bind]
  simp only [Prog.lift, Prog.bind_op, Prog.bind_ret, Prog.pure_eq_ret]
  iapply (go_b2 m ρ K c 4 ([]) (above_nil _) (semS2 4 _)) $$ [HO X4]
  · isplitr; · iexact HR
    isplitr; · iexact Hlev
    isplitl [HO]; · iexact HO
    iexact X4
  iintro ⟨HO, X4⟩
  iapply (go_b2 m ρ K c 6 ([]) (above_nil _) (semS2 6 _)) $$ [HO X6]
  · isplitr; · iexact HR
    isplitr; · iexact Hlev
    isplitl [HO]; · iexact HO
    iexact X6
  iintro ⟨HO, X6⟩
  iapply (go_b2 m ρ K c 0 ([]) (above_nil _) (semS2 0 _)) $$ [HO X0]
  · isplitr; · iexact HR
    isplitr; · iexact Hlev
    isplitl [HO]; · iexact HO
    iexact X0
  iintro ⟨HO, X0⟩
  iapply (go_b2 m ρ K c 2 ([]) (above_nil _) (semS2 2 _)) $$ [HO X2]
  · isplitr; · iexact HR
    isplitr; · iexact Hlev
    isplitl [HO]; · iexact HO
    iexact X2
  iintro ⟨HO, X2⟩
  iapply (go_b2 m ρ K c 3 ([]) (above_nil _) (semS2 3 _)) $$ [HO X3]
  · isplitr; · iexact HR
    isplitr; · iexact Hlev
    isplitl [HO]; · iexact HO
    iexact X3
  iintro ⟨HO, X3⟩
  unfold flR
  iapply (go_local c [] 2 (above_nil _) (semW 2 _) (by rw [lv_sW]; decide) rfl) $$ [HO FR]
  · isplitr; · iexact Hlev
    isplitl [HO]; · iexact HO
    iexact FR
  iintro ⟨HO, ⟨Hv, S4⟩, V2⟩
  unfold b1post b2post
  icases Y5 with ⟨Y5, Z5⟩
  icases X5 with ⟨X5, U5⟩
  icases Y1 with ⟨Y1, Z1⟩
  icases X1 with ⟨X1, U1⟩
  icases Y4 with ⟨Y4, Z4⟩
  icases X4 with ⟨X4, U4⟩
  icases Y6 with ⟨Y6, Z6⟩
  icases X6 with ⟨X6, U6⟩
  icases Y0 with ⟨Y0, Z0⟩
  icases X0 with ⟨X0, U0⟩
  icases Y2 with ⟨Y2, Z2⟩
  icases X2 with ⟨X2, U2⟩
  icases Y3 with ⟨Y3, Z3⟩
  icases X3 with ⟨X3, U3⟩
  ihave Vs1 := (Entails.of_eq (seven fun r : Fin 7 => (semVal (send1Cell c r) 0 : sProp 𝕄)).symm) $$ [Z5 Z1 Z4 Z6 Z0 Z2 Z3]
  · isplitl [Z5]; · iexact Z5
    isplitl [Z1]; · iexact Z1
    isplitl [Z4]; · iexact Z4
    isplitl [Z6]; · iexact Z6
    isplitl [Z0]; · iexact Z0
    isplitl [Z2]; · iexact Z2
    iexact Z3
  ihave Vs2 := (Entails.of_eq (seven fun r : Fin 7 => (semVal (send2Cell c r) 0 : sProp 𝕄)).symm) $$ [U5 U1 U4 U6 U0 U2 U3]
  · isplitl [U5]; · iexact U5
    isplitl [U1]; · iexact U1
    isplitl [U4]; · iexact U4
    isplitl [U6]; · iexact U6
    isplitl [U0]; · iexact U0
    isplitl [U2]; · iexact U2
    iexact U3
  ihave HX := (Entails.of_eq (seven fun r : Fin 7 => (ctxPts c (fwd c r) (ctxF m ρ c) : sProp 𝕄)).symm) $$ [Y5 Y1 Y4 Y6 Y0 Y2 Y3]
  · isplitl [Y5]; · iexact Y5
    isplitl [Y1]; · iexact Y1
    isplitl [Y4]; · iexact Y4
    isplitl [Y6]; · iexact Y6
    isplitl [Y0]; · iexact Y0
    isplitl [Y2]; · iexact Y2
    iexact Y3
  ihave HY := (Entails.of_eq (seven fun r : Fin 7 => (redPts c (redShare r) (redF m ρ c) : sProp 𝕄)).symm) $$ [X5 X1 X4 X6 X0 X2 X3]
  · isplitl [X5]; · iexact X5
    isplitl [X1]; · iexact X1
    isplitl [X4]; · iexact X4
    isplitl [X6]; · iexact X6
    isplitl [X0]; · iexact X0
    isplitl [X2]; · iexact X2
    iexact X3
  ihave Sx := (Entails.of_eq ((ctx_split c (ctxF m ρ c)).trans (around_fwd c _)).symm) $$ [Sx HX]
  · isplitl [Sx]; · iexact Sx
    iexact HX
  ihave S7 := (red_join c (redF m ρ c)) $$ [S7 HY]
  · isplitl [S7]; · iexact S7
    iexact HY
  unfold redPts
  ihave H1 := (arg1_split c _).2 $$ [H1 H1r]
  · isplitl [H1]; · iexact H1
    iexact H1r
  iapply (go_last (c := c))
  imod (close_self m ρ K c (E := Set.univ) (Set.mem_univ _)) $$ [Ac] with Vc
  · isplitr; · iexact HR
    iexact Ac
  ihave Vr1 := (Entails.of_eq (around_bwd c fun j : Fin 8 => (semVal (recv1Cell c j) 0 : sProp 𝕄)).symm) $$ [Vc Vr1]
  · isplitl [Vc]; · iexact Vc
    iexact Vr1
  imodintro
  iapply Hk
  isplitl [HO]; · iexact HO
  isplitl [H0]; · iexact H0
  isplitl [H1]; · iexact H1
  isplitl [H4]; · iexact H4
  isplitl [Hv]; · iexact Hv
  isplitl [G0]; · iexact G0
  isplitl [G1]; · iexact G1
  isplitl [S0]; · iexact S0
  isplitl [S1]; · iexact S1
  isplitl [S2]; · iexact S2
  isplitl [S3]; · iexact S3
  isplitl [S4]; · iexists _; iexact S4
  isplitl [Sx]; · iexists _; iexact Sx
  isplitl [Sc]; · iexists _; iexact Sc
  isplitl [S7]; · iexists _; iexact S7
  isplitl [Sa]; · iexists _; iexact Sa
  isplitl [V0]; · iexact V0
  isplitl [V1]; · iexact V1
  isplitl [V2]; · iexact V2
  isplitl [Vb]; · iexact Vb
  isplitl [Vs1]; · iexact Vs1
  isplitl [Vr1]; · iexact Vr1
  isplitl [Vs2]; · iexact Vs2
  iexact Vr2

end Whole

end Cert.KernelIdeal.Run

end
-- ==== Proof.KDeal.lean ====
/-
What the launch deals: the semaphores, the ghost state, the credit.
-/
module

public import proofs.«01_k».proof.Proof.KParts

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pointwise

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The semaphores, family by family -/

/-- Two assertions that entail each other. -/
theorem same {P Q : sProp 𝕄} (h : P ⊢ Q) (h' : Q ⊢ P) : P = Q := BI.Entails.antisymm h h'

theorem iSend1_inj : Function.Injective iSend1 := by decide
theorem iRecv1_inj : Function.Injective iRecv1 := by decide
theorem iSend2_inj : Function.Injective iSend2 := by decide
theorem iRecv2_inj : Function.Injective iRecv2 := by decide

/-- A family over the exchange's thirty semaphores: the barrier, and the four arrays. -/
theorem parts30 (Φ : Fin 30 → sProp 𝕄) :
    bigSep Finset.univ Φ = iprop(Φ 0 ∗ (bigSep Finset.univ fun r : Fin 7 => Φ (iSend1 r)) ∗ (bigSep Finset.univ fun j : Fin 8 => Φ (iRecv1 j))
      ∗ (bigSep Finset.univ fun r : Fin 7 => Φ (iSend2 r)) ∗ (bigSep Finset.univ fun r : Fin 7 => Φ (iRecv2 r))) := by
  have h : (Finset.univ : Finset (Fin 30)) = insert 0 (Finset.univ.map ⟨iSend1, iSend1_inj⟩ ∪ (Finset.univ.map ⟨iRecv1, iRecv1_inj⟩
      ∪ (Finset.univ.map ⟨iSend2, iSend2_inj⟩ ∪ Finset.univ.map ⟨iRecv2, iRecv2_inj⟩))) := by decide +kernel
  rw [h, bigSep_insert (by decide +kernel), bigSep_union (by decide +kernel), bigSep_union (by decide +kernel), bigSep_union (by decide +kernel),
    bigSep_map, bigSep_map, bigSep_map, bigSep_map]
  rfl

/-- The program's own semaphores: every transfer semaphore but the two of the staging. -/
abbrev osem : Fin 32 → SemLoc sig := fun i => .dma ⟨i.val + 2, by have h : sig.nDmaSem = 34 := rfl; omega⟩
theorem ownSemFacts : Pipeline.OwnSemFacts cfg0.spec osem := by decide +kernel

def oW (j : Fin 3) : Fin 32 := ⟨j.val, by omega⟩
def oEx (i : Fin 29) : Fin 32 := ⟨3 + i.val, by omega⟩
theorem oW_inj : Function.Injective oW := by decide
theorem oEx_inj : Function.Injective oEx := by decide
def kEx (i : Fin 29) : Fin 30 := ⟨1 + i.val, by omega⟩
theorem kEx_inj : Function.Injective kEx := by decide
theorem osem_W (j : Fin 3) : osem (oW j) = .dma (sW j) := by revert j; decide +kernel
theorem osem_Ex (i : Fin 29) : osem (oEx i) = csem (kEx i) := by revert i; decide +kernel

/-- The counters the launch deals: the local copies' three, and the exchange's thirty. -/
theorem sems_eq (c : Dev nD) :
    (iprop(Pipeline.ownSems0 (Ix := Unit) (Name := ℕ) (U := UU) (Lvl := ℕ) (Val := Elt F) (τ := τ) osem c ∗ unscopedSems0 c) : sProp 𝕄)
      = iprop((bigSep Finset.univ fun j : Fin 3 => semVal ((c : Thread nD τ), .dma (sW j)) 0) ∗ bigSep Finset.univ fun k : Fin 30 => semVal (kcell (c, k)) 0) := by
  have h1 : (Finset.univ : Finset (Fin 32)) = Finset.univ.map ⟨oW, oW_inj⟩ ∪ Finset.univ.map ⟨oEx, oEx_inj⟩ := by decide +kernel
  have h2 : (Finset.univ : Finset (Fin 30)) = insert 0 (Finset.univ.map ⟨kEx, kEx_inj⟩) := by decide +kernel
  have e1 : (Pipeline.ownSems0 (Ix := Unit) (Name := ℕ) (U := UU) (Lvl := ℕ) (Val := Elt F) (τ := τ) osem c : sProp 𝕄)
      = iprop((bigSep Finset.univ fun j : Fin 3 => semVal ((c : Thread nD τ), .dma (sW j)) 0) ∗ bigSep Finset.univ fun i : Fin 29 => semVal (kcell (c, kEx i)) 0) := by
    unfold Pipeline.ownSems0
    rw [h1, bigSep_union (by decide +kernel), bigSep_map, bigSep_map]
    refine congrArg₂ (fun X Y => iprop(X ∗ Y)) (bigSep_congr fun j _ => ?_) (bigSep_congr fun i _ => ?_)
    · exact congrArg (fun s => (semVal ((c : Thread nD τ), s) 0 : sProp 𝕄)) (osem_W j)
    · exact congrArg (fun s => (semVal ((c : Thread nD τ), s) 0 : sProp 𝕄)) (osem_Ex i)
  have e2 : (unscopedSems0 c : sProp 𝕄) = semVal (kcell (c, 0)) 0 := by
    unfold unscopedSems0; rw [bigSep_eq_bigSepL_of_eq [SemLoc.reg barS] (by decide +kernel) (by decide +kernel)]; rfl
  have e3 : (bigSep Finset.univ fun k : Fin 30 => (semVal (kcell (c, k)) 0 : sProp 𝕄))
      = iprop(semVal (kcell (c, 0)) 0 ∗ bigSep Finset.univ fun i : Fin 29 => semVal (kcell (c, kEx i)) 0) := by
    rw [h2, bigSep_insert (by decide +kernel), bigSep_map]; rfl
  rw [e1, e2, e3]
  refine same ?_ ?_
  · iintro ⟨⟨H1, H2⟩, H3⟩
    isplitl [H1]; · iexact H1
    isplitl [H3]; · iexact H3
    iexact H2
  · iintro ⟨H1, H3, H2⟩
    isplitr [H3]
    · isplitl [H1]; · iexact H1
      iexact H2
    iexact H3

/-- A family of the thirty, cell by cell. -/
theorem parts_cells (Ψ : GSem nD τ sig → sProp 𝕄) (c : Dev nD) :
    (bigSep Finset.univ fun k : Fin 30 => Ψ (kcell (c, k))) = iprop(Ψ (barCell c) ∗ (bigSep Finset.univ fun r : Fin 7 => Ψ (send1Cell c r)) ∗ (bigSep Finset.univ fun j : Fin 8 => Ψ (recv1Cell c j))
      ∗ (bigSep Finset.univ fun r : Fin 7 => Ψ (send2Cell c r)) ∗ (bigSep Finset.univ fun r : Fin 7 => Ψ (recv2Cell c r))) := by
  rw [parts30 fun k => Ψ (kcell (c, k))]
  simp only [kcell_bar, kcell_send1, kcell_recv1, kcell_send2, kcell_recv2]
theorem three (Φ : Fin 3 → sProp 𝕄) : bigSep Finset.univ Φ = iprop(Φ 0 ∗ Φ 1 ∗ Φ 2) :=
  bigSep_univ_eq_bigSepL [0, 1, 2] (by decide) (by decide) Φ
theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-! ## The tokens -/

/-- The duty device `c` pays by its `k`th kind of act at offset `r`: its signal, its two ends of the first exchange, its two ends
    of the second. -/
def tokOf : Dev nD × Fin 5 × Fin 7 → GSem nD τ sig × ℕ × Fin 7
  | (c, ⟨0, _⟩, r) => (barCell (fwd c r), 0, rev r)
  | (c, ⟨1, _⟩, r) => (send1Cell c r, 0, 0)
  | (c, ⟨2, _⟩, r) => (recv1Cell (fwd c r) c, 0, 0)
  | (c, ⟨3, _⟩, r) => (send2Cell c r, 0, 0)
  | (c, ⟨_ + 4, _⟩, r) => (recv2Cell (fwd c r) r, 0, 0)
/-- A duty's number: its device, its semaphore, its name. -/
def tokNo (t : GSem nD τ sig × ℕ × Fin 7) : ℕ × ℕ × ℕ :=
  (t.1.1.1.val, (match t.1.2 with | .reg _ => 0 | .dma q => q.val), t.2.2.val)
theorem tokNo_inj : ∀ a b : Dev nD × Fin 5 × Fin 7, tokNo (tokOf a) = tokNo (tokOf b) → a = b := by decide +kernel
theorem tokOf_inj : Function.Injective tokOf := fun a b h => tokNo_inj a b (congrArg tokNo h)

def exCells : Finset (GSem nD τ sig) := Finset.univ.map ⟨kcell, kcell_inj⟩
def exToks : Finset (GSem nD τ sig × ℕ × Fin 7) := Finset.univ.map ⟨tokOf, tokOf_inj⟩

/-- The duty tokens device `c` pays with. -/
def dealt (c : Dev nD) : sProp 𝕄 :=
  iprop((bigSep Finset.univ fun r : Fin 7 => dutyTok ER (barCell (fwd c r)) 0 (rev r)) ∗ (bigSep Finset.univ fun r : Fin 7 => tok1B (F := F) c r)
    ∗ (bigSep Finset.univ fun r : Fin 7 => tok2B (F := F) c r))

theorem dealt_eq (c : Dev nD) :
    (bigSep Finset.univ fun k : Fin 5 => bigSep Finset.univ fun r : Fin 7 => (dutyTok ER (tokOf (c, k, r)).1 (tokOf (c, k, r)).2.1 (tokOf (c, k, r)).2.2 : sProp 𝕄)) = dealt c := by
  rw [five]
  unfold dealt tok1B tok2B
  rw [bigSep_sep', bigSep_sep']
  refine same ?_ ?_
  · iintro ⟨H0, H1, H2, H3, H4⟩
    isplitl [H0]; · iexact H0
    isplitr [H3 H4]
    · isplitl [H1]; · iexact H1
      iexact H2
    isplitl [H3]; · iexact H3
    iexact H4
  · iintro ⟨H0, ⟨H1, H2⟩, H3, H4⟩
    isplitl [H0]; · iexact H0
    isplitl [H1]; · iexact H1
    isplitl [H2]; · iexact H2
    isplitl [H3]; · iexact H3
    iexact H4

/-! ## The ghost state dealt -/

/-- What the initial element gives device `c`. -/
def G (c : Dev nD) : sProp 𝕄 :=
  iprop((bigSep Finset.univ fun k : Fin 30 => roundState ER (Rd m ρ) (kcell (c, k)) 0)
    ∗ (bigSep Finset.univ fun k : Fin 30 => atPos ER (kcell (c, k)) 0 ∅ 0) ∗ (bigSep Finset.univ fun k : Fin 30 => reached ER (kcell (c, k)) 0) ∗ dealt c)
/-- What a device keeps of it: its counters of local copies, its positions, its tokens. -/
def mine (c : Dev nD) : sProp 𝕄 :=
  iprop((bigSep Finset.univ fun j : Fin 3 => semVal ((c : Thread nD τ), .dma (sW j)) 0) ∗ (bigSep Finset.univ fun k : Fin 30 => atPos ER (kcell (c, k)) 0 ∅ 0) ∗ dealt c)
/-- What a device's run starts from, the invariants' names unknown. -/
def G' (c : Dev nD) : sProp 𝕄 := iprop(∃ K, records m ρ K ∗ mine c)

theorem fund : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Fin 30 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => dealt c := by
    unfold exToks; rw [bigSep_map, bigSep_univ_prod]
    refine bigSep_congr fun c _ => ?_
    rw [← dealt_eq, bigSep_univ_prod]; rfl
  iintro HX
  imod (Rounds.fund ER (Rd m ρ) exCells exToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; rw [bigSep_sep', bigSep_sep', bigSep_sep']
  isplitl [Hst]; · iexact Hst
  isplitl [Hat]; · iexact Hat
  isplitl [Hr]; · iexact Hr
  iexact Htok

/-- A device's thirty cells opened: their invariants allocated. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 30 => iprop(∃ κ : ℕ, cellInv ER (Rd m ρ) κ (kcell (c, k))))
          ∗ (bigSep Finset.univ fun k : Fin 30 => reached ER (kcell (c, k)) 0) ∗ mine (F := F) c) := by
  unfold G mine
  iintro ⟨Hos, Hus, Hst, Hat, Hr, Htok⟩
  ihave Hv := (Entails.of_eq (sems_eq (F := F) c)) $$ [Hos Hus]
  · isplitl [Hos]; · iexact Hos
    iexact Hus
  icases Hv with ⟨Hw, Hv⟩
  imod (show iprop((bigSep Finset.univ fun k : Fin 30 => semVal (kcell (c, k)) 0) ∗ bigSep Finset.univ fun k : Fin 30 => roundState ER (Rd m ρ) (kcell (c, k)) 0)
      ⊢ (|={Set.univ}=> bigSep Finset.univ fun k : Fin 30 => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv]; · iexact Hv
    iexact Hst
  imodintro
  isplitl [Hinv]; · iexact Hinv
  isplitl [Hr]; · iexact Hr
  isplitl [Hw]; · iexact Hw
  isplitl [Hat]; · iexact Hat
  iexact Htok

/-- A persistent fact goes to every member of a family. -/
theorem family_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 30 => iprop(∃ κ : ℕ, cellInv ER (Rd m ρ) κ (kcell (c, k))))
          ∗ (bigSep Finset.univ fun k : Fin 30 => reached ER (kcell (c, k)) 0) ∗ mine (F := F) c) : sProp 𝕄)
      ⊢ bigSep Finset.univ (G' m ρ) := by
  rw [bigSep_sep', bigSep_sep', ← bigSep_univ_prod (fun ck : Dev nD × Fin 30 => iprop(∃ κ : ℕ, cellInv ER (Rd m ρ) κ (kcell ck))),
    ← bigSep_univ_prod (fun ck : Dev nD × Fin 30 => (reached ER (kcell ck) 0 : sProp 𝕄))]
  iintro ⟨HI, #HR, Hm⟩
  ihave HK := (BI.bigSep_exists_pi Finset.univ (fun (ck : Dev nD × Fin 30) (κ : ℕ) => (cellInv ER (Rd m ρ) κ (kcell ck) : sProp 𝕄))) $$ HI
  icases HK with ⟨%K, #HI⟩
  iapply (family_with (R := records m ρ K) (Φ := fun c => mine (F := F) c) fun c _ => by
    unfold G'; iintro H; iexists K; iexact H)
  isplitr
  · unfold records; rw [bigSep_sep']
    isplitl; · iexact HI
    iexact HR
  iexact Hm

/-- Every device's semaphores at once: the invariants of all cells are known to all. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit of the launch -/

/-- What is owed a cell, every due being of its cell's amount. -/
theorem dues_count (l : List (GSem nD τ sig × ℕ)) (h : ∀ p ∈ l, p.2 = amountAt p.1.2) (g : GSem nD τ sig) :
    dues l g () = (l.map Prod.fst).count g * amountAt g.2 := by
  induction l with
  | nil => exact (Nat.zero_mul _).symm
  | cons p l ih =>
    have e : dues (p :: l) g () = dues l g () + tallyAt p.1 () p.2 g () := rfl
    rw [e, ih fun q hq => h q (List.mem_cons_of_mem _ hq), tallyAt_apply, List.map_cons, List.count_cons]
    by_cases hg : g = p.1
    · rw [if_pos ⟨hg, rfl⟩, h p List.mem_cons_self, hg, if_pos (beq_self_eq_true _), Nat.add_mul, Nat.one_mul]
    · rw [if_neg (fun e => hg e.1), if_neg (by rw [beq_iff_eq]; exact fun e => hg e.symm)]; rfl
theorem dues_amt (c : Dev nD) : ∀ p ∈ duesS c, p.2 = amountAt p.1.2 := fun p hp => by
  rcases List.mem_append.mp hp with h | h
  · obtain ⟨r, _, rfl⟩ := List.mem_map.mp h; rfl
  rcases List.mem_append.mp h with h | h
  · obtain ⟨r, _, rfl⟩ := List.mem_map.mp h
    exact (if_pos (show (12 + c.val : ℕ) < 20 from by have : c.val < 8 := c.isLt; omega)).symm
  · obtain ⟨r, _, rfl⟩ := List.mem_map.mp h
    exact (if_neg (show ¬ (27 + r.val : ℕ) < 20 from by omega)).symm

theorem count_bar : ∀ c : Dev nD, ∑ d : Dev nD, ((duesS d).map Prod.fst).count (barCell c) = 7 := by decide +kernel
theorem count_recv1 : ∀ (c : Dev nD) (r : Fin 7), ∑ d : Dev nD, ((duesS d).map Prod.fst).count (recv1Cell c (bwd c r)) = 1 := by decide +kernel
theorem count_recv2 : ∀ (c : Dev nD) (r : Fin 7), ∑ d : Dev nD, ((duesS d).map Prod.fst).count (recv2Cell c r) = 1 := by decide +kernel

theorem launch_at (g : GSem nD τ sig) (n : ℕ) (h : ∑ d : Dev nD, ((duesS d).map Prod.fst).count g = n) :
    tallyOn g (launchCredit (Pipeline.owing O₀) 0 g) = (tallyAt g () (n * amountAt g.2) : CellTallies nD τ sig Unit) := by
  have key : ∑ d : Dev nD, O₀ d g () = n * amountAt g.2 := by
    rw [← h, Finset.sum_mul]
    exact Finset.sum_congr rfl fun d _ => dues_count (duesS d) (dues_amt d) g
  unfold tallyAt; refine congrArg _ (Finsupp.ext fun u => ?_); cases u
  rw [Finsupp.single_eq_same]
  exact (Pipeline.launchCredit_owing _ _ _).trans key

def credSems (c : Dev nD) : Fin 15 → SemLoc sig := fun i =>
  if h : i.val = 0 then .reg barS else if h' : i.val < 8 then .dma (sRecv1 (bwd c ⟨i.val - 1, by omega⟩)) else .dma (sRecv2 ⟨i.val - 8, by omega⟩)
theorem credSems_inj : ∀ (c : Dev nD), Function.Injective (credSems c) := by decide +kernel
def e1 (r : Fin 7) : Fin 15 := ⟨1 + r.val, by omega⟩
def e2 (r : Fin 7) : Fin 15 := ⟨8 + r.val, by omega⟩
theorem e1_inj : Function.Injective e1 := by decide
theorem e2_inj : Function.Injective e2 := by decide
theorem credSems_1 (c : Dev nD) (r : Fin 7) : credSems c (e1 r) = .dma (sRecv1 (bwd c r)) := by revert c r; decide +kernel
theorem credSems_2 (c : Dev nD) (r : Fin 7) : credSems c (e2 r) = .dma (sRecv2 r) := by revert c r; decide +kernel

theorem creds (c : Dev nD) :
    (Pipeline.launchCred O₀ c : sProp 𝕄) ⊢ iprop(cred (tallyAt (barCell c) () 7) ∗ (bigSep Finset.univ fun r : Fin 7 => cred (tallyAt (recv1Cell c (bwd c r)) () N1))
      ∗ (bigSep Finset.univ fun r : Fin 7 => cred (tallyAt (recv2Cell c r) () N2))) := by
  have h15 : (Finset.univ : Finset (Fin 15)) = insert 0 (Finset.univ.map ⟨e1, e1_inj⟩ ∪ Finset.univ.map ⟨e2, e2_inj⟩) := by decide +kernel
  have hb := launch_at (barCell c) 7 (count_bar c)
  have h1 := fun r => launch_at (recv1Cell c (bwd c r)) 1 (count_recv1 c r)
  have h2 := fun r => launch_at (recv2Cell c r) 1 (count_recv2 c r)
  rw [show 7 * amountAt (barCell c).2 = 7 from rfl] at hb
  have a1 : ∀ r, 1 * amountAt (recv1Cell c (bwd c r)).2 = N1 := fun r => (Nat.one_mul _).trans (if_pos (show (12 + (bwd c r).val : ℕ) < 20 from by have : (bwd c r).val < 8 := (bwd c r).isLt; omega))
  have a2 : ∀ r, 1 * amountAt (recv2Cell c r).2 = N2 := fun r => (Nat.one_mul _).trans (if_neg (show ¬ (27 + r.val : ℕ) < 20 from by omega))
  unfold Pipeline.launchCred
  refine Entails.trans (show _ ⊢ _ from bigSep_subset (Finset.subset_univ (Finset.univ.map ⟨credSems c, credSems_inj c⟩))) (Entails.of_eq ?_)
  rw [bigSep_map, h15, bigSep_insert (by decide +kernel), bigSep_union (by decide +kernel), bigSep_map, bigSep_map]
  refine congrArg₂ (fun X Y => iprop(X ∗ Y)) ?_ (congrArg₂ (fun X Y => iprop(X ∗ Y)) (bigSep_congr fun r _ => ?_) (bigSep_congr fun r _ => ?_))
  · exact congrArg cred hb
  · show cred (tallyOn ((c : Thread nD τ), credSems c (e1 r)) (launchCredit (Pipeline.owing O₀) 0 ((c : Thread nD τ), credSems c (e1 r)))) = _
    rw [credSems_1]; exact congrArg cred ((h1 r).trans (by rw [a1]))
  · show cred (tallyOn ((c : Thread nD τ), credSems c (e2 r)) (launchCredit (Pipeline.owing O₀) 0 ((c : Thread nD τ), credSems c (e2 r)))) = _
    rw [credSems_2]; exact congrArg cred ((h2 r).trans (by rw [a2]))

end Cert.KernelIdeal.Run

end
-- ==== Proof.KLaunch.lean ====
/-
The launch: the run of all devices together.
-/
module

public import proofs.«01_k».proof.Proof.KBody
public import proofs.«01_k».proof.Proof.KDeal
public import Idealize.ShloMosaic.Lib.Pipeline.CollectiveSegs

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pointwise

variable {F : FTy → Type} [FloatOps F] [Named F]

local notation "𝕄" => MT nD τ sig Unit (Elt F) ℕ UU ℕ

variable (m : (ℓ : Loc nD τ sig) → Buf (Elt F) ℓ) (ρ : Dev nD → PrngReg)

/-- A whole buffer held, by its location. -/
theorem pts_whole (c : Dev nD) (b : Ref sig .tc) (f : Buf (Elt F) ((c : Thread nD τ).loc b)) :
    (pts c (Memref.whole b) fullShare f : sProp 𝕄) = ((c : Thread nD τ).loc b ↦{fullShare} f) := by
  show ((Memref.whole b).view.loc (c : Thread nD τ) ↦[(Memref.whole b).view.set]{fullShare} f : sProp 𝕄) = _
  rw [show (Memref.whole b).view.set = (Finset.univ : Finset (Idx ((c : Thread nD τ).loc b))) from View.set_whole b]
theorem any_whole (c : Dev nD) (b : Ref sig .tc) :
    (anyPts (F := F) c (Memref.whole b) : sProp 𝕄) = iprop(∃ f : Buf (Elt F) ((c : Thread nD τ).loc b), (c : Thread nD τ).loc b ↦{fullShare} f) := by
  show iprop(∃ f, pts (F := F) c (Memref.whole b) fullShare f) = _
  simp only [pts_whole]

/-- The arguments that are no window's array. -/
def argsHeld (c : Dev nD) : sProp 𝕄 :=
  iprop(((c : Thread nD τ).loc main_arg0 ↦{fullShare} m ((c : Thread nD τ).loc main_arg0)) ∗ ((c : Thread nD τ).loc main_arg1 ↦{fullShare} m ((c : Thread nD τ).loc main_arg1)) ∗ ((c : Thread nD τ).loc main_arg4 ↦{fullShare} m ((c : Thread nD τ).loc main_arg4)))
/-- What device `c`'s run starts from, beside the scratch. -/
def start (c : Dev nD) : sProp 𝕄 :=
  iprop(G' m ρ c ∗ Pipeline.launchCred O₀ c ∗ levAts L lv ∗ argsHeld m c ∗ (∃ f : Buf (Elt F) ((c : Thread nD τ).loc main_v1), (c : Thread nD τ).loc main_v1 ↦{fullShare} f))
/-- What it leaves: the arguments as they were, the result computed, every counter at zero. -/
def leave (c : Dev nD) : sProp 𝕄 :=
  iprop(unscopedSems0 c ∗ argsHeld m c ∗ ((c : Thread nD τ).loc main_v1 ↦{fullShare} outF m ρ))
def Φ₀ (c : Dev nD) : sProp 𝕄 := iprop(start m ρ c ∗ Pipeline.scopedRest cfg0.spec c)
def Φ₁ (c : Dev nD) : sProp 𝕄 := iprop(leave m ρ c ∗ Pipeline.ownSems0 osem c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => kAt m ρ c
    | ⟨1, _⟩ => vAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem windows (Φ : Fin cfg0.W → sProp 𝕄) : bigSep Finset.univ Φ = iprop(Φ (0 : Fin 2) ∗ Φ (1 : Fin 2)) := bigSep_W0 Φ

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

abbrev staged (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))
def bodyPre (c : Dev nD) : sProp 𝕄 :=
  iprop(Φ₀ m ρ c ∗ (dats m ρ 0 c).owesAt () t0_0.castSucc
    ∗ (∃ d, staged c cc0_stg0_0 ((dats m ρ 0 c).before (0 : Fin 2) t0_0 d))
    ∗ (∃ d, staged c cc0_stg1_0 ((dats m ρ 0 c).before (1 : Fin 2) t0_0 d)))
def bodyPost (c : Dev nD) : sProp 𝕄 :=
  iprop(Φ₁ m ρ c ∗ (dats m ρ 0 c).owesAt () t0_0.succ ∗ staged c cc0_stg0_0 (kAt m ρ c) ∗ staged c cc0_stg1_0 (vAt m ρ c))

theorem before_k (c : Dev nD) (d) : (dats m ρ 0 c).before (0 : Fin 2) t0_0 d = kAt m ρ c := by
  unfold Dat.before; rw [if_pos (fetch0_0 t0_0)]; rfl
theorem before_v (c : Dev nD) (d) : (dats m ρ 0 c).before (1 : Fin 2) t0_0 d = vAt m ρ c := by
  unfold Dat.before; rw [if_pos (fetch0_1 t0_0)]; rfl

/-- The counters at the end, as the launch takes them back. -/
theorem sems_back (c : Dev nD) :
    iprop(semVal ((c : Thread nD τ), .dma (sW 0)) 0 ∗ semVal ((c : Thread nD τ), .dma (sW 1)) 0 ∗ semVal ((c : Thread nD τ), .dma (sW 2)) 0 ∗ semVal (barCell c) 0 ∗ (bigSep Finset.univ fun r : Fin 7 => semVal (send1Cell c r) 0) ∗ (bigSep Finset.univ fun j : Fin 8 => semVal (recv1Cell c j) 0) ∗ (bigSep Finset.univ fun r : Fin 7 => semVal (send2Cell c r) 0) ∗ (bigSep Finset.univ fun r : Fin 7 => semVal (recv2Cell c r) 0))
      ⊢ (iprop(Pipeline.ownSems0 (Ix := Unit) (Name := ℕ) (U := UU) (Lvl := ℕ) (Val := Elt F) (τ := τ) osem c ∗ unscopedSems0 c) : sProp 𝕄) := by
  rw [sems_eq, three, parts_cells (fun g => (semVal g 0 : sProp 𝕄)) c]
  iintro ⟨V0, V1, V2, H⟩
  isplitr [H]
  · isplitl [V0]; · iexact V0
    isplitl [V1]; · iexact V1
    iexact V2
  iexact H

set_option maxHeartbeats 4000000 in
/-- The body from what the pipeline hands it, to what it takes back. -/
theorem body_pre (c : Dev nD) : bodyPre m ρ c ⊢ run c (cc0_body (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13) (fun _ => bodyPost m ρ c) := by
  unfold bodyPre Φ₀ start G' mine dealt argsHeld
  rw [show cfg0.spec = spec0 from rfl, scopedRest0_eq]
  iintro ⟨⟨⟨⟨%K, #HR, HW, HA, HT⟩, HC, #Hlev, ⟨H0, H1, H4⟩, Hv⟩, HSC⟩, Ho, ⟨%d0, %g0, %hg0, G0⟩, ⟨%d1, %g1, %hg1, G1⟩⟩
  rw [before_k] at hg0
  rw [before_v] at hg1
  subst hg0 hg1
  icases HSC with ⟨S0, S1, S2, S3, S4, S5, S6, S7, S8⟩
  unfold Dat.owesAt Pipeline.owesWithin
  icases Ho with ⟨%W, %hW, HO⟩
  rw [show (dats m ρ 0 c).owed t0_0.castSucc = dues (duesS c) from rfl]
  ihave HO : owesE (F := F) c (duesS c) $$ [HO]
  · unfold owesE; iexists W; iexact HO
  ihave HW := (Entails.of_eq (three fun j : Fin 3 => (semVal ((c : Thread nD τ), .dma (sW j)) 0 : sProp 𝕄))) $$ HW
  icases HW with ⟨V0, V1, V2⟩
  ihave HA := (Entails.of_eq (parts_cells (fun g => (atPos ER g 0 ∅ 0 : sProp 𝕄)) c)) $$ HA
  icases HA with ⟨Ab, As1, Ar1, As2, Ar2⟩
  icases HT with ⟨Tb, T1, T2⟩
  ihave HC := (creds (F := F) c) $$ HC
  icases HC with ⟨Cb, Cr1, Cr2⟩
  have key := body_run m ρ K c (Q := fun _ => bodyPost m ρ c)
  ihave H0 := (Entails.of_eq (pts_whole c main_arg0 _).symm) $$ H0
  ihave H1 := (Entails.of_eq (pts_whole c main_arg1 _).symm) $$ H1
  ihave H4 := (Entails.of_eq (pts_whole c main_arg4 _).symm) $$ H4
  ihave G0 := (Entails.of_eq (pts_whole c cc0_stg0_0 _).symm) $$ G0
  ihave G1 := (Entails.of_eq (pts_whole c cc0_stg1_0 _).symm) $$ G1
  ihave S0 := (Entails.of_eq (any_whole (F := F) c cc0_scratch0).symm) $$ S0
  ihave S1 := (Entails.of_eq (any_whole (F := F) c cc0_scratch1).symm) $$ S1
  ihave S2 := (Entails.of_eq (any_whole (F := F) c cc0_scratch2).symm) $$ S2
  ihave S3 := (Entails.of_eq (any_whole (F := F) c cc0_scratch3).symm) $$ S3
  ihave S4 := (Entails.of_eq (any_whole (F := F) c cc0_scratch4).symm) $$ S4
  ihave S5 := (Entails.of_eq (any_whole (F := F) c cc0_scratch5).symm) $$ S5
  ihave S6 := (Entails.of_eq (any_whole (F := F) c cc0_scratch6).symm) $$ S6
  ihave S7 := (Entails.of_eq (any_whole (F := F) c cc0_scratch7).symm) $$ S7
  ihave S8 := (Entails.of_eq (any_whole (F := F) c cc0_scratch8).symm) $$ S8
  ihave Hv := (Entails.of_eq (any_whole (F := F) c main_v1).symm) $$ Hv
  iapply key $$ [HO Ab As1 Ar1 As2 Ar2 Tb T1 T2 Cb Cr1 Cr2 H0 H1 H4 Hv G0 G1 S0 S1 S2 S3 S4 S5 S6 S7 S8 V0 V1 V2]
  · isplitr; · iexact HR
    isplitr; · iexact Hlev
    isplitl [HO]; · iexact HO
    isplitl [Ab]; · iexact Ab
    isplitl [As1]; · iexact As1
    isplitl [Ar1]; · iexact Ar1
    isplitl [As2]; · iexact As2
    isplitl [Ar2]; · iexact Ar2
    isplitl [Tb]; · iexact Tb
    isplitl [T1]; · iexact T1
    isplitl [T2]; · iexact T2
    isplitl [Cb]; · iexact Cb
    isplitl [Cr1]; · iexact Cr1
    isplitl [Cr2]; · iexact Cr2
    isplitl [H0]; · iexact H0
    isplitl [H1]; · iexact H1
    isplitl [H4]; · iexact H4
    isplitl [Hv]; · iexact Hv
    isplitl [G0]; · iexact G0
    isplitl [G1]; · iexact G1
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [V0]; · iexact V0
    isplitl [V1]; · iexact V1
    iexact V2
  iintro ⟨HO, H0, H1, H4, Hv, G0, G1, S0, S1, S2, S3, S4, S5, S6, S7, S8, V0, V1, V2, Vb, Vs1, Vr1, Vs2, Vr2⟩
  ihave H0 := (Entails.of_eq (pts_whole c main_arg0 _)) $$ H0
  ihave H1 := (Entails.of_eq (pts_whole c main_arg1 _)) $$ H1
  ihave H4 := (Entails.of_eq (pts_whole c main_arg4 _)) $$ H4
  ihave G0 := (Entails.of_eq (pts_whole c cc0_stg0_0 _)) $$ G0
  ihave G1 := (Entails.of_eq (pts_whole c cc0_stg1_0 _)) $$ G1
  ihave Hv := (Entails.of_eq (pts_whole c main_v1 _)) $$ Hv
  ihave S0 := (Entails.of_eq (any_whole (F := F) c cc0_scratch0)) $$ S0
  ihave S1 := (Entails.of_eq (any_whole (F := F) c cc0_scratch1)) $$ S1
  ihave S2 := (Entails.of_eq (any_whole (F := F) c cc0_scratch2)) $$ S2
  ihave S3 := (Entails.of_eq (any_whole (F := F) c cc0_scratch3)) $$ S3
  ihave S4 := (Entails.of_eq (any_whole (F := F) c cc0_scratch4)) $$ S4
  ihave S5 := (Entails.of_eq (any_whole (F := F) c cc0_scratch5)) $$ S5
  ihave S6 := (Entails.of_eq (any_whole (F := F) c cc0_scratch6)) $$ S6
  ihave S7 := (Entails.of_eq (any_whole (F := F) c cc0_scratch7)) $$ S7
  ihave S8 := (Entails.of_eq (any_whole (F := F) c cc0_scratch8)) $$ S8
  unfold bodyPost Φ₁ leave argsHeld Dat.owesAt Pipeline.owesWithin
  rw [show (dats m ρ 0 c).owed t0_0.succ = dues [] from rfl, show cfg0.spec = spec0 from rfl, scopedRest0_eq]
  ihave HV := (sems_back (F := F) c) $$ [V0 V1 V2 Vb Vs1 Vr1 Vs2 Vr2]
  · isplitl [V0]; · iexact V0
    isplitl [V1]; · iexact V1
    isplitl [V2]; · iexact V2
    isplitl [Vb]; · iexact Vb
    isplitl [Vs1]; · iexact Vs1
    isplitl [Vr1]; · iexact Vr1
    isplitl [Vs2]; · iexact Vs2
    iexact Vr2
  icases HV with ⟨Hos, Hus⟩
  unfold owesE
  icases HO with ⟨%W', HO⟩
  isplitr [HO G0 G1]
  · isplitl [Hus H0 H1 H4 Hv]
    · isplitl [Hus]; · iexact Hus
      isplitr [Hv]
      · isplitl [H0]; · iexact H0
        isplitl [H1]; · iexact H1
        iexact H4
      iexact Hv
    isplitl [Hos]; · iexact Hos
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact S8
  isplitl [HO]
  · iexists W'
    isplitr; · ipureintro; exact fun _ _ => Or.inl trivial
    iexact HO
  isplitl [G0]
  · iexists _; isplitr; · (ipureintro; rfl)
    iexact G0
  iexists _; isplitr; · (ipureintro; rfl)
  iexact G1

/-- The body's obligation to the pipeline. -/
theorem body_obligation (c : Dev nD) : BodyObligation (dats (F := F) m ρ 0 c) (defs₀ (F := F)) 𝒱₀ () Set.univ := fun t => by
  rw [fin_N0 t]
  rw [windows, windows]
  simp only [owns_whole]
  show bodyPre m ρ c ⊢ run c (cc0_body (F := F) (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_arg4) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13) (fun _ => bodyPost m ρ c)
  exact body_pre m ρ c

/-! ## The launch -/

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), (initOf exCells exToks, (1 : Counters)))

theorem u₀_split : (ownU u₀ : sProp 𝕄) ⊢ iprop(BI.own (EP (initOf (Pipeline.cells cfgs cellOf_inj) (Pipeline.launchToks cfgs cellOf_inj)))
    ∗ BI.own (ER (initOf exCells exToks))) := by
  unfold u₀
  iintro Hu
  ihave H := (ownU_pair _ _) $$ Hu
  icases H with ⟨HP, HX⟩
  isplitl [HP]; · iexact HP
  iexact HX

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  unfold start argsHeld
  iintro ⟨⟨H0, H1, H4, Hv⟩, Hlev, Hcr, -, HG⟩
  imodintro
  isplitl
  · isplitl [HG]; · iexact HG
    isplitl [Hcr]; · iexact Hcr
    isplitl [Hlev]; · iexact Hlev
    isplitr [Hv]
    · isplitl [H0]; · iexact H0
      isplitl [H1]; · iexact H1
      iexact H4
    iexists _; iexact Hv
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iexact Hr

theorem phi1_exit (c : Dev nD) :
    (dats m ρ 0 c).Φ (Fin.last cfg0.N) ⊢ iprop(leave m ρ c ∗ Pipeline.ownSems0 osem c ∗ Pipeline.scopedRest cfg0.spec c) := by
  rw [show (dats m ρ 0 c).Φ (Fin.last cfg0.N) = Φ₁ m ρ c from rfl]
  exact Entails.rfl

theorem waits (c : Dev nD) : (levAts L lv : sProp 𝕄) ⊢ Pipeline.cellsWaits cfgs (dats m ρ) () 0 c :=
  Pipeline.cellsWaits_intro cfgs (dats m ρ) () 0 c fun w s t => by
    have hlow : lvAt (.dma ((cfg0.win w).sem s)) ≤ 0 := by fin_cases w <;> fin_cases s <;> decide +kernel
    rcases t with ⟨_ | _, ht⟩
    · exact mayWait c _ 0 (duesS c) (above_S c) hlow
    · exact mayWait c _ 0 [] (above_nil 0) hlow

/-- What a run ends in: the staged arguments at their own contents, the other arguments unchanged, the result computed. -/
def Ends (r : PUnit × MemSt nD τ sig (Elt F)) : Prop :=
  (∀ c : Dev nD, ∀ w : Fin cfg0.W, r.2.mem ((cfg0.win w).arr.view.loc (c : Thread nD τ)) = (dats m ρ 0 c).arrAt w cfg0.N)
    ∧ (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg4) = m ((c : Thread nD τ).loc main_arg4)
      ∧ r.2.mem ((c : Thread nD τ).loc main_v1) = outF m ρ)
    ∧ r.2.sem = fun _ => 0

/-- One buffer's contents read off the final memory. -/
theorem read_one (c : Dev nD) (b : Ref sig .tc) (f : Buf (Elt F) ((c : Thread nD τ).loc b)) (s' : Phys nD τ sig (Elt F)) :
    (iprop(((c : Thread nD τ).loc b ↦{fullShare} f) ∗ SI s') : sProp 𝕄) ⊢ iprop(⌜s'.mem.mem ((c : Thread nD τ).loc b) = f⌝ ∗ SI s') := by
  iintro ⟨H, HS⟩
  ihave HH := (pointsTo_read_all (Finset.univ : Finset (Fin 1)) (fun _ => (c : Thread nD τ).loc b) (fun _ => f) s' (q := fullShare)) $$ [H HS]
  · isplitl [H]
    · rw [bigSep_univ_eq_bigSepL [0] (by decide) (by decide), bigSepL_singleton]; iexact H
    iexact HS
  icases HH with ⟨%h, HS⟩
  isplitr; · ipureintro; exact h 0 (Finset.mem_univ _)
  iexact HS

def Read (c : Dev nD) (s : MemSt nD τ sig (Elt F)) : Prop :=
  (s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg4) = m ((c : Thread nD τ).loc main_arg4)
      ∧ s.mem ((c : Thread nD τ).loc main_v1) = outF m ρ)
    ∧ ∀ sm : SemLoc sig, sm.isScoped .tc = false → s.sem ((c.tc : Thread nD τ), sm) = 0

theorem read_end (c : Dev nD) (s' : Phys nD τ sig (Elt F)) :
    iprop(leave m ρ c ∗ emp ∗ SI s') ⊢ |={Set.univ}=> iprop(⌜Read m ρ c s'.mem⌝ ∗ SI s') := by
  unfold leave argsHeld
  iintro ⟨⟨Hu, ⟨H0, H1, H4⟩, Hv⟩, -, HS⟩
  ihave HH := (read_one c main_arg0 _ s') $$ [H0 HS]
  · isplitl [H0]; · iexact H0
    iexact HS
  icases HH with ⟨%h0, HS⟩
  ihave HH := (read_one c main_arg1 _ s') $$ [H1 HS]
  · isplitl [H1]; · iexact H1
    iexact HS
  icases HH with ⟨%h1, HS⟩
  ihave HH := (read_one c main_arg4 _ s') $$ [H4 HS]
  · isplitl [H4]; · iexact H4
    iexact HS
  icases HH with ⟨%h4, HS⟩
  ihave HH := (read_one c main_v1 _ s') $$ [Hv HS]
  · isplitl [Hv]; · iexact Hv
    iexact HS
  icases HH with ⟨%hv, HS⟩
  imod (Pipeline.unscopedSems0_read (X := unscopedSems0 c) (c := c) fupd_intro s') $$ [Hu HS] with ⟨%hs, HS⟩
  · isplitl [Hu]; · iexact Hu
    iexact HS
  imodintro
  isplitr; · ipureintro; exact ⟨⟨h0, h1, h4, hv⟩, hs⟩
  iexact HS

set_option maxRecDepth 8000 in
/-- THE RUN on eight devices, at any float values and from any memory with the counters at zero: every fair execution ends, with
    the result computed on every device, the arguments unchanged and the counters at zero. -/
theorem run_main : θ_run defs (onTc (τ := τ) (main (F := F))) (s₀ m ρ) (Ends m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      iintro Hu
      ihave H := (u₀_split (F := F)) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := leave m ρ) (Z := fun _ => iprop(emp))
    (hX := start_intro m ρ) (hin := phi0_intro m ρ) (hout := phi1_exit m ρ)
    (QY := Read m ρ)
    (hY := read_end m ρ)
    (hQ := fun _ h hs => ⟨fun c w => (h c).1 w, fun c => (h c).2.2.1, sem_eq_zero hs fun c => (h c).2.2.2⟩)

end Cert.KernelIdeal.Run

end
-- ==== Proof.KEnds.lean ====
/-
What a finished run leaves of the arguments, the result and the counters.
-/
module

public import proofs.«01_k».proof.Proof.KLaunch

@[expose] public section

noncomputable section

namespace Cert.KernelIdeal.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pointwise

variable {F : FTy → Type} [FloatOps F] [Named F]

local notation "𝕄" => MT nD τ sig Unit (Elt F) ℕ UU ℕ

variable (m : (ℓ : Loc nD τ sig) → Buf (Elt F) ℓ) (ρ : Dev nD → PrngReg)

/-- The first windowed argument is as it was. -/
theorem kept_k (c : Dev nD) : (dats m ρ 0 c).arrAt (0 : Fin 2) cfg0.N = m ((c : Thread nD τ).loc main_arg2) :=
  (dats (F := F) m ρ 0 c).arrAt_in (0 : Fin 2) rfl _
/-- The second windowed argument is as it was. -/
theorem kept_v (c : Dev nD) : (dats m ρ 0 c).arrAt (1 : Fin 2) cfg0.N = m ((c : Thread nD τ).loc main_arg3) :=
  (dats (F := F) m ρ 0 c).arrAt_in (1 : Fin 2) rfl _

/-- Every fair execution ends with all five arguments unchanged and the result computed on each device, and with every
    counter at zero. -/
theorem run_ends : θ_run defs (onTc (τ := τ) (main (F := F))) (s₀ m ρ) (fun r =>
    (∀ c : Dev nD, r.2.mem ((c : Thread nD τ).loc main_v1) = outF m ρ
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) := by
  refine (θ_run defs _ _).mono ?_ (run_main m ρ)
  rintro r ⟨hw, hc, hs⟩
  refine ⟨fun c => ?_, hs⟩
  obtain ⟨h0, h1, h4, hv⟩ := hc c
  exact ⟨hv, h0, h1, (hw c (0 : Fin 2)).trans (kept_k m ρ c), (hw c (1 : Fin 2)).trans (kept_v m ρ c), h4⟩

end Cert.KernelIdeal.Run
-- ==== Proof.VAttn.lean ====
/-
One row of attention at the extended reals: columns masked to −∞ outside an embedded set of keys change nothing.
-/
module

public import Idealize.ShloMosaic.PureOps.Ideal.Laws

@[expose] public section

noncomputable section

namespace Cert.Attn

open Idealize.ShloMosaic

/-- Being a real number, among the extended reals. -/
def IsReal (x : EReal) : Prop := ∃ r : ℝ, x = (r : EReal)

theorem IsReal.zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
/-- A finite sum of reals is a real. -/
theorem IsReal.sum {ι : Type} (s : Finset ι) {f : ι → EReal} (h : ∀ i, IsReal (f i)) : IsReal (∑ i ∈ s, f i) := by
  classical
  induction s using Finset.induction_on with
  | empty => simpa using IsReal.zero
  | insert a s ha ih => rw [Finset.sum_insert ha]; exact (h a).add ih
theorem IsReal.ne_top {x : EReal} (h : IsReal x) : x ≠ ⊤ := by obtain ⟨a, rfl⟩ := h; exact EReal.coe_ne_top a
theorem IsReal.ne_bot {x : EReal} (h : IsReal x) : x ≠ ⊥ := by obtain ⟨a, rfl⟩ := h; exact EReal.coe_ne_bot a
/-- A value whose absolute value is less than infinity is a real. -/
theorem IsReal.of_abs_lt {x : EReal} (h : max x (-x) < ⊤) : IsReal x := by
  induction x with
  | bot => simp at h
  | top => simp at h
  | coe a => exact ⟨a, rfl⟩

theorem exp_nonneg (x : EReal) : 0 ≤ Ideal.exp x := by
  induction x with
  | bot => exact le_of_eq Ideal.exp_bot.symm
  | top => exact EReal.zero_lt_top.le
  | coe a => rw [Ideal.exp_coe]; exact_mod_cast (Real.exp_pos a).le

theorem exp_pos_of_ne_bot {x : EReal} (h : x ≠ ⊥) : 0 < Ideal.exp x := by
  induction x with
  | bot => exact absurd rfl h
  | top => exact EReal.zero_lt_top
  | coe a => rw [Ideal.exp_coe]; exact_mod_cast Real.exp_pos a

variable {ι κ : Type} [Fintype ι] [Fintype κ]

/-- The largest of a row. -/
def top (s : ι → EReal) : EReal := Finset.univ.fold max ⊥ s

theorem top_eq_sup (s : ι → EReal) : top s = Finset.univ.sup s := rfl

/-- The largest of a row is that over the embedded keys, when all other entries are −∞. -/
theorem top_comp (e : κ → ι) (s : ι → EReal) (hoff : ∀ i, i ∉ Set.range e → s i = ⊥) : top s = top fun k => s (e k) := by
  rw [top_eq_sup, top_eq_sup]
  apply le_antisymm
  · refine Finset.sup_le fun i _ => ?_
    by_cases h : i ∈ Set.range e
    · obtain ⟨k, rfl⟩ := h
      exact Finset.le_sup (f := fun k => s (e k)) (Finset.mem_univ k)
    · rw [hoff i h]; exact bot_le
  · exact Finset.sup_le fun k _ => Finset.le_sup (f := s) (Finset.mem_univ (e k))

/-- The sum of exponentials likewise. -/
theorem sum_exp_comp (e : κ → ι) (he : Function.Injective e) (s : ι → EReal) (hoff : ∀ i, i ∉ Set.range e → s i = ⊥) (M : EReal) :
    ∑ k, Ideal.exp (s (e k) - M) = ∑ i, Ideal.exp (s i - M) := by
  refine Fintype.sum_of_injective e he _ _ (fun i hi => ?_) (fun _ => rfl)
  rw [hoff i hi, EReal.bot_sub, Ideal.exp_bot]

/-- A sum of exponentials with one exponent above −∞ is not zero. -/
theorem sum_exp_ne_zero (s : ι → EReal) (htop : ∀ i, s i ≠ ⊤) (i₀ : ι) (h₀ : s i₀ ≠ ⊥) : ∑ i, Ideal.exp (s i - top s) ≠ 0 := by
  have hM : top s ≠ ⊤ := by
    rw [top_eq_sup]
    refine ((Finset.sup_lt_iff (bot_lt_top)).2 fun i _ => lt_top_iff_ne_top.2 (htop i)).ne
  have hb : s i₀ - top s ≠ ⊥ := by
    rw [sub_eq_add_neg, Ne, EReal.add_eq_bot_iff, not_or, EReal.neg_eq_bot_iff]
    exact ⟨h₀, hM⟩
  have h1 : Ideal.exp (s i₀ - top s) ≤ ∑ i, Ideal.exp (s i - top s) :=
    Finset.single_le_sum (f := fun i => Ideal.exp (s i - top s)) (fun i _ => exp_nonneg _) (Finset.mem_univ i₀)
  exact (lt_of_lt_of_le (exp_pos_of_ne_bot hb) h1).ne'

/-- The row's weighted sum over all columns is the one over the embedded keys. -/
theorem row_eq (e : κ → ι) (he : Function.Injective e) (s v : ι → EReal) (hoff : ∀ i, i ∉ Set.range e → s i = ⊥) (htop : ∀ i, s i ≠ ⊤)
    (k₀ : κ) (h₀ : s (e k₀) ≠ ⊥) :
    ∑ i, Ideal.div (Ideal.exp (s i - top s)) (∑ i', Ideal.exp (s i' - top s)) * v i =
      ∑ k, v (e k) * Ideal.div (Ideal.exp (s (e k) - top fun k => s (e k))) (∑ k', Ideal.exp (s (e k') - top fun k => s (e k))) := by
  have hS := sum_exp_ne_zero s htop (e k₀) h₀
  rw [← top_comp e s hoff, sum_exp_comp e he s hoff]
  symm
  refine Fintype.sum_of_injective e he _ _ (fun i hi => ?_) (fun k => mul_comm _ _)
  rw [hoff i hi, EReal.bot_sub, Ideal.exp_bot, Ideal.div, if_neg hS, zero_mul, zero_mul]

end Cert.Attn

end
-- ==== Proof.KMath.lean ====
/-
What one device's attention computes, at the extended reals, index by index.
-/
module

public import proofs.«01_k».proof.Proof.KProto
public import proofs.«01_k».proof.Proof.VAttn
public import Idealize.ShloMosaic.Lib.Pointwise
public import Idealize.ShloMosaic.PureOps.Ideal.Laws

@[expose] public section

noncomputable section

namespace Cert.KernelIdeal.Math

open Cert.KernelIdeal Cert.KernelIdeal.Gen Cert.KernelIdeal.Run Idealize.ShloMosaic Idealize.ShloMosaic.TcCoe

/-- The mask of a device's 256 by 256 scores. -/
def mask : IVec S256x256 1 := k0_pay17 msk1 msk2 msk3 msk4 msk5

/-- The scores of one head, masked. -/
def score (q k : FVec Ideal S256x64 .bf16) : FVec Ideal S256x256 .f32 :=
  select mask (mulf (matmul (F := Ideal) dot_S256x64_S256x64_S256x256_1_1_0_0_n_n none q k (constant (F := Ideal) S256x256 .f32 0x00000000#32))
    (broadcast S256x256 (Scalar.ofBits (F := Ideal) .f32 0x3E000000#32))) (broadcast S256x256 (Named.named (F := Ideal) κ "mask" 0xCE6E6B28#32))
/-- The exponentials of one head's scores less their row's largest. -/
def expo (s : FVec Ideal S256x256 .f32) : FVec Ideal S256x256 .f32 :=
  exp (subf s (broadcastTo S256x256 (shapeCast S256x1 (multiReduction .maximumf [1] S256 s 0xFF800000#32 reduces_S256x256_S256 (.inl rfl) rfl) shapeCasts_S256_S256x1)
    broadcasts_S256x1_S256x256))
/-- One head's context. -/
def mix (e : FVec Ideal S256x256 .f32) (v : FVec Ideal S256x64 .bf16) : FVec Ideal S256x64 .f32 :=
  matmul (F := Ideal) dot_S256x256_S256x64_S256x64_1_0_0_1_n_n none
    (truncf .bf16 (divf e (broadcastTo S256x256 (shapeCast S256x1 (multiReduction .add [1] S256 e 0x00000000#32 reduces_S256x256_S256 (.inl rfl) rfl) shapeCasts_S256_S256x1)
      broadcasts_S256x1_S256x256)) bitsLt_bf16_f32) v (constant (F := Ideal) S256x64 .f32 0x00000000#32)
/-- One head, from its own queries, keys and values. -/
def one (q k v : FVec Ideal S256x64 .bf16) : FVec Ideal S256x64 .f32 := mix (expo (score q k)) v
/-- A head's keys or values as rows, from its slice. -/
def rows (k : FVec Ideal S2x128x1x64 .bf16) : FVec Ideal S256x64 .bf16 :=
  shapeCast S256x64 (shapeCast S2x128x64 k shapeCasts_S2x128x1x64_S2x128x64) shapeCasts_S2x128x64_S256x64

/-- The four heads side by side. -/
theorem heads_eq (q : FVec Ideal S256x256 .bf16) (k v : FVec Ideal S2x128x4x64 .bf16) :
    heads (F := Ideal) q k v = concatenate S256x256 1
      [⟨S256x64, one (extractStridedSlice S256x64 ![0, 0] q slices_S256x256_o0_0_S256x64)
          (rows (extractStridedSlice S2x128x1x64 ![0, 0, 0, 0] k slices_S2x128x4x64_o0_0_0_0_S2x128x1x64))
          (rows (extractStridedSlice S2x128x1x64 ![0, 0, 0, 0] v slices_S2x128x4x64_o0_0_0_0_S2x128x1x64))⟩,
       ⟨S256x64, one (extractStridedSlice S256x64 ![0, 64] q slices_S256x256_o0_64_S256x64)
          (rows (extractStridedSlice S2x128x1x64 ![0, 0, 1, 0] k slices_S2x128x4x64_o0_0_1_0_S2x128x1x64))
          (rows (extractStridedSlice S2x128x1x64 ![0, 0, 1, 0] v slices_S2x128x4x64_o0_0_1_0_S2x128x1x64))⟩,
       ⟨S256x64, one (extractStridedSlice S256x64 ![0, 128] q slices_S256x256_o0_128_S256x64)
          (rows (extractStridedSlice S2x128x1x64 ![0, 0, 2, 0] k slices_S2x128x4x64_o0_0_2_0_S2x128x1x64))
          (rows (extractStridedSlice S2x128x1x64 ![0, 0, 2, 0] v slices_S2x128x4x64_o0_0_2_0_S2x128x1x64))⟩,
       ⟨S256x64, one (extractStridedSlice S256x64 ![0, 192] q slices_S256x256_o0_192_S256x64)
          (rows (extractStridedSlice S2x128x1x64 ![0, 0, 3, 0] k slices_S2x128x4x64_o0_0_3_0_S2x128x1x64))
          (rows (extractStridedSlice S2x128x1x64 ![0, 0, 3, 0] v slices_S2x128x4x64_o0_0_3_0_S2x128x1x64))⟩]
      concatenates_S256x64_S256x64_S256x64_S256x64_S256x256_d1 := rfl

/-- Whether two rows are of one batch. -/
theorem msk1_apply (r c : Fin 256) : msk1 (ix2 r c) = BitVec.ofBool (decide (r.val / 128 = c.val / 128)) := by
  have hr : k0_pay4 (ix2 r c) = BitVec.ofNat 32 (r.val / 128) := by
    pointwise [k0_pay4]
    revert r
    decide +kernel
  unfold msk1
  pointwise [k0_pay7, k0_pay5, k0_pay6, colI]
  rw [hr]
  have h2 : ∀ a b : Fin 2, IntOp.cmpi .eq (BitVec.ofNat 32 a.val) (BitVec.ofNat 32 b.val) = BitVec.ofBool (decide (a.val = b.val)) := by decide
  refine (congrArg (IntOp.cmpi .eq (BitVec.ofNat 32 (r.val / 128))) (?_ : _ = BitVec.ofNat 32 (c.val / 128))).trans
    (h2 ⟨r.val / 128, by omega⟩ ⟨c.val / 128, by omega⟩)
  clear hr
  revert c
  decide +kernel
/-- Columns by their place in their batch. -/
theorem pay8_apply (r c : Fin 256) : k0_pay8 colI (ix2 r c) = BitVec.ofNat 32 (c.val % 128) := by
  pointwise [k0_pay8, colI]
  revert c
  decide +kernel
/-- Rows by their place in their batch. -/
theorem pay13_apply (r c : Fin 256) : k0_pay13 rowI (ix2 r c) = BitVec.ofNat 32 (r.val % 128) := by
  pointwise [k0_pay13, rowI]
  revert r
  decide +kernel
/-- The block of a column. -/
theorem msk2_apply (r c : Fin 256) : msk2 (ix2 r c) = BitVec.ofNat 32 (c.val % 128 / 64) := by
  pointwise [msk2, k0_pay12, k0_pay9, k0_pay10, k0_pay11]
  rw [pay8_apply]
  revert c
  decide +kernel
/-- The block of a row. -/
theorem msk345_apply (r c : Fin 256) : select msk4 msk5 msk3 (ix2 r c) = BitVec.ofNat 32 (r.val % 128 / 64) := by
  pointwise [msk3, msk4, msk5, k0_pay14, k0_pay15, k0_pay16]
  rw [pay13_apply]
  revert r
  decide +kernel
/-- Which columns a row sees: those of its own batch in its own block or an earlier one. -/
def Sees (r c : Fin 256) : Prop := r.val / 128 = c.val / 128 ∧ c.val % 128 / 64 ≤ r.val % 128 / 64
instance (r c : Fin 256) : Decidable (Sees r c) := inferInstanceAs (Decidable (_ ∧ _))
/-- The mask at an index. -/
theorem mask_apply (r c : Fin 256) : mask (ix2 r c) = BitVec.ofBool (decide (Sees r c)) := by
  have h : mask (ix2 r c) = IntOp.andi (msk1 (ix2 r c)) (IntOp.cmpi .sle (msk2 (ix2 r c)) (select msk4 msk5 msk3 (ix2 r c))) := rfl
  rw [h, msk1_apply, msk2_apply, msk345_apply]
  have h2 : ∀ a b : Fin 2, IntOp.cmpi .sle (BitVec.ofNat 32 a.val) (BitVec.ofNat 32 b.val) = BitVec.ofBool (decide (a.val ≤ b.val)) := by decide
  have h3 := h2 ⟨c.val % 128 / 64, by omega⟩ ⟨r.val % 128 / 64, by omega⟩
  simp only at h3
  rw [h3]
  by_cases h4 : r.val / 128 = c.val / 128 <;> by_cases h5 : c.val % 128 / 64 ≤ r.val % 128 / 64 <;> simp [Sees, h4, h5] <;> rfl

/-- The masked scores of one row. -/
def rowScore (q : Fin 64 → EReal) (k : Fin 256 → Fin 64 → EReal) (r c : Fin 256) : EReal :=
  if Sees r c then (∑ d : Fin 64, q d * k c d) * Ideal.ofBits .f32 0x3E000000#32 else ⊥
/-- The weighted sum of one row. -/
def rowMix (s v : Fin 256 → EReal) : EReal :=
  ∑ c, Ideal.div (Ideal.exp (s c - Attn.top s)) (∑ c', Ideal.exp (s c' - Attn.top s)) * v c

theorem bits_neg_inf : Ideal.ofBits .f32 0xFF800000#32 = ⊥ := by simp [Ideal.ofBits, Ideal.ieee]
/-- The named mask constant is −∞. -/
theorem named_mask : (Named.named (φ := .f32) κ "mask" 0xCE6E6B28#32 : Ideal .f32) = ⊥ :=
  IdealRules.named_const.ideal_named_scalar _ _ _ _ rfl

theorem score_apply (q k : FVec Ideal S256x64 .bf16) (r c : Fin 256) :
    score q k (ix2 r c) = rowScore (fun d => q (ix2 r d)) (fun c d => k (ix2 c d)) r c := by
  pointwise [score, rowScore]
  rw [mask_apply]
  by_cases hc : Sees r c
  · simp only [hc, decide_true, if_true]; rfl
  · simp only [hc, decide_false, if_false]; exact named_mask
theorem expo_apply (s : FVec Ideal S256x256 .f32) (r c : Fin 256) :
    expo s (ix2 r c) = Ideal.exp (s (ix2 r c) - Attn.top fun c => s (ix2 r c)) := by
  pointwise [expo, Attn.top]
  rw [bits_neg_inf]
theorem mix_apply (e : FVec Ideal S256x256 .f32) (v : FVec Ideal S256x64 .bf16) (r : Fin 256) (d : Fin 64) :
    mix e v (ix2 r d) = ∑ c : Fin 256, Ideal.div (e (ix2 r c)) (∑ c' : Fin 256, e (ix2 r c')) * v (ix2 c d) := by
  pointwise [mix]
/-- One head at an index. -/
theorem one_apply (q k v : FVec Ideal S256x64 .bf16) (r : Fin 256) (d : Fin 64) :
    one q k v (ix2 r d) = rowMix (rowScore (fun d => q (ix2 r d)) (fun c d => k (ix2 c d)) r) (fun c => v (ix2 c d)) := by
  simp only [one, mix_apply, expo_apply, score_apply, rowMix]
theorem rows_apply (k : FVec Ideal S2x128x1x64 .bf16) (r : Fin 256) (d : Fin 64) :
    rows k (ix2 r d) = k (ix4 ⟨r.val / 128, by omega⟩ ⟨r.val % 128, by omega⟩ 0 d) := by
  pointwise [rows]
/-- Four parts side by side, at an index of part `h`. -/
theorem cat_apply (a : Fin 4 → FVec Ideal S256x64 .f32) (r : Fin 256) (h : Fin 4) (d : Fin 64) :
    concatenate S256x256 1 [⟨S256x64, a 0⟩, ⟨S256x64, a 1⟩, ⟨S256x64, a 2⟩, ⟨S256x64, a 3⟩] concatenates_S256x64_S256x64_S256x64_S256x64_S256x256_d1
      (ix2 r ⟨64 * h.val + d.val, by omega⟩) = a h (ix2 r d) := by
  have hd := d.isLt
  rcases h with ⟨h, hh⟩
  interval_cases h
  all_goals
    pointwise
    try split_ifs
    all_goals first | omega | (congr 2; apply Fin.ext; simp only []; omega)
/-- The four heads at an index of head `h`. -/
theorem heads_apply (q : FVec Ideal S256x256 .bf16) (k v : FVec Ideal S2x128x4x64 .bf16) (r : Fin 256) (h : Fin 4) (d : Fin 64) :
    heads (F := Ideal) q k v (ix2 r ⟨64 * h.val + d.val, by omega⟩) =
      rowMix (rowScore (fun d => q (ix2 r ⟨64 * h.val + d.val, by omega⟩)) (fun c d => k (ix4 ⟨c.val / 128, by omega⟩ ⟨c.val % 128, by omega⟩ h d)) r)
        (fun c => v (ix4 ⟨c.val / 128, by omega⟩ ⟨c.val % 128, by omega⟩ h d)) := by
  rw [heads_eq]
  refine (cat_apply ![_, _, _, _] r h d).trans ?_
  rcases h with ⟨h, hh⟩
  interval_cases h
  · refine (one_apply _ _ _ r d).trans ?_
    pointwise [rows_apply]
  · refine (one_apply _ _ _ r d).trans ?_
    pointwise [rows_apply]
  · refine (one_apply _ _ _ r d).trans ?_
    pointwise [rows_apply]
  · refine (one_apply _ _ _ r d).trans ?_
    pointwise [rows_apply]

end Cert.KernelIdeal.Math

end
-- ==== Proof.KOut.lean ====
/-
The kernel's result at the extended reals, index by index.
-/
module

public import proofs.«01_k».proof.Proof.KMath
public import Idealize.ShloMosaic.Lib.Pipeline.ValueKit.Geometry

@[expose] public section

noncomputable section

namespace Cert.KernelIdeal.Math

open Idealize.ShloMosaic.Pipeline Cert.KernelIdeal Cert.KernelIdeal.Gen Cert.KernelIdeal.Run Idealize.ShloMosaic Idealize.ShloMosaic.TcCoe

variable (m : (ℓ : Loc nD τ sig) → Buf (Elt Ideal) ℓ) (ρ : Dev nD → PrngReg)

/-- The query projection's block of columns at an index. -/
theorem wqAt_apply (c : Dev nD) (k : Fin 512) (n : Fin 256) :
    wqAt (F := Ideal) m c (ix2 k n) = (show Vec Ideal S512x2048 .f32 from m ((c : Thread nD τ).loc main_arg1)) (ix2 k ⟨256 * c.val + n.val, by have := c.isLt; simp only [nD] at this; omega⟩) := by
  unfold wqAt
  rw [View.read_apply]
  refine (cast_eq _ _).trans (congrArg (m ((c : Thread nD τ).loc main_arg1)) (funext fun a => Fin.ext ?_))
  refine (ValueKit.view_emb_slice_whole_unit_val main_arg1 (k0_off1 c) S512x256.size (k0_off1_inb c) (ix2 k n) a).trans ?_
  refine (congrArg (· + (ix2 k n a).val) (congrFun (k0_off1_eq c) a)).trans ?_
  revert a
  refine Fin.forall_fin_two.2 ⟨?_, ?_⟩
  · exact Nat.zero_add _
  · rfl
/-- The staged keys are the device's. -/
theorem kAt_eq (c : Dev nD) : kAt (F := Ideal) m ρ c = m ((c : Thread nD τ).loc main_arg2) := by
  unfold kAt
  exact Memref.read_access_unit_zero (Elt Ideal) main_arg2 (funext fun a => by revert a; decide +kernel) _ _
/-- The staged values are the device's. -/
theorem vAt_eq (c : Dev nD) : vAt (F := Ideal) m ρ c = m ((c : Thread nD τ).loc main_arg3) := by
  unfold vAt
  exact Memref.read_access_unit_zero (Elt Ideal) main_arg3 (funext fun a => by revert a; decide +kernel) _ _
/-- The projected queries at an index. -/
theorem pay1_apply (x : Vec Ideal S2x128x512 .f32) (w : Vec Ideal S512x256 .f32) (r n : Fin 256) :
    k0_pay1 x w (ix2 r n) = ∑ k : Fin 512, x (ix3 ⟨r.val / 128, by omega⟩ ⟨r.val % 128, by omega⟩ k) * w (ix2 k n) := by
  pointwise [k0_pay1]
theorem pay2_apply (x : Vec Ideal S2x128x4x64 .f32) (b : Fin 2) (i : Fin 128) (h : Fin 4) (d : Fin 64) : k0_pay2 x (ix4 b i h d) = x (ix4 b i h d) := by
  pointwise [k0_pay2]
theorem pay3_apply (x : Vec Ideal S2x128x4x64 .f32) (b : Fin 2) (i : Fin 128) (h : Fin 4) (d : Fin 64) : k0_pay3 x (ix4 b i h d) = x (ix4 b i h d) := by
  pointwise [k0_pay3]
theorem pay22_apply (x : FVec Ideal S256x256 .f32) (r n : Fin 256) : k0_pay22 x (ix2 r n) = x (ix2 r n) := by
  pointwise [k0_pay22]
theorem pay31_apply (x : Vec Ideal S256x512 .bf16) (b : Fin 2) (i : Fin 128) (e : Fin 512) : k0_pay31 x (ix3 b i e) = x (ix2 ⟨b.val * 128 + i.val, by omega⟩ e) := by
  pointwise [k0_pay31]
set_option maxRecDepth 8192 in
set_option maxHeartbeats 4000000 in
/-- Eight parts side by side, at an index of part `j`. -/
theorem cat8_apply (a : Fin 8 → FVec Ideal S32x256 .bf16) (r : Fin 32) (j : Fin 8) (d : Fin 256) :
    concatenate S32x2048 1 [⟨S32x256, a 0⟩, ⟨S32x256, a 1⟩, ⟨S32x256, a 2⟩, ⟨S32x256, a 3⟩, ⟨S32x256, a 4⟩, ⟨S32x256, a 5⟩, ⟨S32x256, a 6⟩, ⟨S32x256, a 7⟩]
      concatenates_S32x256_S32x256_S32x256_S32x256_S32x256_S32x256_S32x256_S32x256_S32x2048_d1 (ix2 r ⟨256 * j.val + d.val, by omega⟩) = a j (ix2 r d) := by
  have hd := d.isLt
  rcases j with ⟨j, hj⟩
  interval_cases j
  all_goals
    pointwise
    try split_ifs
    all_goals first | omega | exact congrArg (fun x => a _ (ix2 r x)) (Fin.ext (by simp only []; omega))
/-- A slot's rows. -/
theorem slot_apply (c j : Fin 8) (a : Fin 32) (n : Fin 256) :
    shapeCast S32x256 (slotV (F := Ideal) m ρ c j) shapeCasts_S1x32x256_S32x256 (ix2 a n) = ctxF m ρ j (ix2 (rowAt c a) n) := by
  have h : shapeCast S32x256 (slotV (F := Ideal) m ρ c j) shapeCasts_S1x32x256_S32x256 (ix2 a n) = slotV (F := Ideal) m ρ c j (ix3 0 a n) := by
    pointwise
  rw [h]; rfl
/-- The rows a device makes, at an index. -/
theorem redF_apply (c : Fin 8) (a : Fin 32) (e : Fin 512) :
    redF (F := Ideal) m ρ c (ix2 a e) = ∑ k : Fin 2048, ctxF (F := Ideal) m ρ ⟨k.val / 256, by simp only [nD]; omega⟩ (ix2 (rowAt c a) ⟨k.val % 256, by omega⟩) *
      (show Vec Ideal S2048x512 .f32 from m (((c : Dev nD) : Thread nD τ).loc main_arg4)) (ix2 k e) := by
  have h : redF (F := Ideal) m ρ c (ix2 a e) = ∑ k : Fin 2048,
      concatenate S32x2048 1 [⟨S32x256, shapeCast S32x256 (slotV (F := Ideal) m ρ c 0) shapeCasts_S1x32x256_S32x256⟩,
          ⟨S32x256, shapeCast S32x256 (slotV (F := Ideal) m ρ c 1) shapeCasts_S1x32x256_S32x256⟩,
          ⟨S32x256, shapeCast S32x256 (slotV (F := Ideal) m ρ c 2) shapeCasts_S1x32x256_S32x256⟩,
          ⟨S32x256, shapeCast S32x256 (slotV (F := Ideal) m ρ c 3) shapeCasts_S1x32x256_S32x256⟩,
          ⟨S32x256, shapeCast S32x256 (slotV (F := Ideal) m ρ c 4) shapeCasts_S1x32x256_S32x256⟩,
          ⟨S32x256, shapeCast S32x256 (slotV (F := Ideal) m ρ c 5) shapeCasts_S1x32x256_S32x256⟩,
          ⟨S32x256, shapeCast S32x256 (slotV (F := Ideal) m ρ c 6) shapeCasts_S1x32x256_S32x256⟩,
          ⟨S32x256, shapeCast S32x256 (slotV (F := Ideal) m ρ c 7) shapeCasts_S1x32x256_S32x256⟩]
        concatenates_S32x256_S32x256_S32x256_S32x256_S32x256_S32x256_S32x256_S32x256_S32x2048_d1 (ix2 a k) *
      (show Vec Ideal S2048x512 .f32 from m (((c : Dev nD) : Thread nD τ).loc main_arg4)) (ix2 k e) := by
    unfold redF k0_pay29 k0_pay25 k0_pay26 k0_pay27 k0_pay28 k0_pay24 woAt
    generalize concatenate S32x2048 1 _ _ = p
    generalize m _ = w
    pointwise
  rw [h]
  refine Finset.sum_congr rfl fun k _ => congrArg (· * _) ?_
  have hk : k = ⟨256 * (⟨k.val / 256, by omega⟩ : Fin 8).val + (⟨k.val % 256, by omega⟩ : Fin 256).val, by simp only []; omega⟩ := by
    apply Fin.ext; simp only []; omega
  conv_lhs => rw [hk]
  refine (cat8_apply (fun j => shapeCast S32x256 (slotV (F := Ideal) m ρ c j) shapeCasts_S1x32x256_S32x256) a _ _).trans ?_
  exact slot_apply m ρ c _ a _
/-- The result at an index. -/
theorem outF_apply (b : Fin 2) (i : Fin 128) (e : Fin 512) :
    ∃ c : Fin 8, outF (F := Ideal) m ρ (ix3 b i e) = ∑ k : Fin 2048, ctxF (F := Ideal) m ρ ⟨k.val / 256, by simp only [nD]; omega⟩ (ix2 ⟨b.val * 128 + i.val, by omega⟩ ⟨k.val % 256, by omega⟩) *
      (show Vec Ideal S2048x512 .f32 from m (((c : Dev nD) : Thread nD τ).loc main_arg4)) (ix2 k e) := by
  refine ⟨blkOf ⟨b.val * 128 + i.val, by omega⟩, ?_⟩
  unfold outF
  rw [pay31_apply]
  refine (redF_apply m ρ _ _ _).trans ?_
  refine Finset.sum_congr rfl fun k _ => congrArg (· * _) ?_
  congr 2
  apply Fin.ext
  show 32 * ((b.val * 128 + i.val) / 32) + (b.val * 128 + i.val) % 32 = b.val * 128 + i.val
  omega
/-- A device's context at an index. -/
theorem ctxF_apply (c : Dev nD) (r : Fin 256) (h : Fin 4) (d : Fin 64) :
    ctxF (F := Ideal) m ρ c (ix2 r ⟨64 * h.val + d.val, by omega⟩) =
      rowMix (rowScore
          (fun d => ∑ k : Fin 512, (show Vec Ideal S2x128x512 .f32 from m ((c : Thread nD τ).loc main_arg0)) (ix3 ⟨r.val / 128, by omega⟩ ⟨r.val % 128, by omega⟩ k) *
            (show Vec Ideal S512x2048 .f32 from m ((c : Thread nD τ).loc main_arg1)) (ix2 k ⟨256 * c.val + (64 * h.val + d.val), by have := c.isLt; simp only [nD] at this; omega⟩))
          (fun c' d => (show Vec Ideal S2x128x4x64 .f32 from m ((c : Thread nD τ).loc main_arg2)) (ix4 ⟨c'.val / 128, by omega⟩ ⟨c'.val % 128, by omega⟩ h d)) r)
        (fun c' => (show Vec Ideal S2x128x4x64 .f32 from m ((c : Thread nD τ).loc main_arg3)) (ix4 ⟨c'.val / 128, by omega⟩ ⟨c'.val % 128, by omega⟩ h d)) := by
  unfold ctxF
  rw [pay22_apply, heads_apply]
  simp only [pay1_apply, pay2_apply, pay3_apply, kAt_eq, vAt_eq, wqAt_apply]
  rfl

end Cert.KernelIdeal.Math

end
-- ==== Proof.RMath.lean ====
/-
What the reference computes, at the extended reals, index by index.
-/
module

public import proofs.«01_k».proof.Proof.Gen.ReferenceIdeal
public import proofs.«01_k».proof.Proof.Gen.ReferenceIdeal.Run
public import Idealize.ShloMosaic.Lib.Pointwise
public import Idealize.ShloMosaic.Lib.Routing.OpsOrder
public import Idealize.ShloMosaic.PureOps.Ideal.Laws

@[expose] public section

noncomputable section

namespace Cert.ReferenceIdeal.Math

open Cert.ReferenceIdeal Cert.ReferenceIdeal.Gen Idealize.ShloMosaic Idealize.ShloMosaic.TcCoe

/-- The block number of each of the 128 positions. -/
def blk : IVec S128 32 :=
  select (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32))))
        (broadcastInDim S128 ![] bcast_S_S128 (constantI S_ 32 0#32))))
    (subi (Host.divsi (iotaInDim S128 32 0) (broadcastInDim S128 ![] bcast_S_S128 (id (constantI S_ 32 64#32))))
      (broadcastInDim S128 ![] bcast_S_S128 (constantI S_ 32 1#32)))
    (Host.divsi (iotaInDim S128 32 0) (broadcastInDim S128 ![] bcast_S_S128 (id (constantI S_ 32 64#32))))
/-- Which key a query sees: that of its own block or an earlier one. -/
def mask : IVec S128x128 1 :=
  cmpi .sle (broadcastInDim S128x128 ![0, 1] bcast_S1x128_S128x128_0_1 (broadcastInDim S1x128 ![1] bcast_S128_S1x128_1 blk))
    (broadcastInDim S128x128 ![0, 1] bcast_S128x1_S128x128_0_1 (broadcastInDim S128x1 ![0] bcast_S128_S128x1_0 blk))
/-- The projected queries. -/
def proj (x : FVec Ideal S2x128x512 .f32) (wq : FVec Ideal S512x2048 .f32) : FVec Ideal S2x128x32x64 .f32 :=
  shapeCast _ (Host.dotGeneral dot_S2x128x512_S512x2048_S2x128x2048_2_0_01_1_n_n none x wq) shapeCasts_S2x128x2048_S2x128x32x64
/-- The masked scores. -/
def scores (q k : FVec Ideal S2x128x32x64 .f32) : FVec Ideal S2x32x128x128 .f32 :=
  select (broadcastInDim S2x32x128x128 ![0, 1, 2, 3] bcast_S1x1x128x128_S2x32x128x128_0_1_2_3 (broadcastInDim S1x1x128x128 ![2, 3] bcast_S128x128_S1x1x128x128_2_3 mask))
    (mulf (Host.dotGeneral dot_S2x128x32x64_S2x128x32x64_S2x32x128x128_3_3_1_1_02_02 none q k) (broadcastInDim S2x32x128x128 ![] bcast_S_S2x32x128x128 (constant S_ .f32 0x3E000000#32)))
    (broadcastInDim S2x32x128x128 ![] bcast_S_S2x32x128x128 (id (constant S_ .f32 0xFF800000#32)))
/-- The exponentials of scores less their row's largest. -/
def expo (s : FVec Ideal S2x32x128x128 .f32) : FVec Ideal S2x32x128x128 .f32 :=
  Host.exp (subf s (broadcastInDim S2x32x128x128 ![0, 1, 2, 3] bcast_S2x32x128x1_S2x32x128x128_0_1_2_3 (broadcastInDim S2x32x128x1 ![0, 1, 2] bcast_S2x32x128_S2x32x128x1_0_1_2
    (Host.reduce FloatOps.maximumf s (constant S_ .f32 0xFF800000#32) reducesTo_S2x32x128x128_S2x32x128_d3 h_S_))))
/-- Whether a query sees any key. -/
def keep : IVec S128 1 := Host.reduce IntOp.ori mask (constantI S_ 1 0#1) reducesTo_S128x128_S128_d1 h_S_
/-- The weights. -/
def weights (e : FVec Ideal S2x32x128x128 .f32) : FVec Ideal S2x32x128x128 .f32 :=
  select (broadcastInDim S2x32x128x128 ![0, 1, 2, 3] bcast_S1x1x128x1_S2x32x128x128_0_1_2_3 (broadcastInDim S1x1x128x1 ![2] bcast_S128_S1x1x128x1_2 keep))
    (Host.divf e (broadcastInDim S2x32x128x128 ![0, 1, 2, 3] bcast_S2x32x128x1_S2x32x128x128_0_1_2_3
      (select (broadcastInDim S2x32x128x1 ![0, 1, 2, 3] bcast_S1x1x128x1_S2x32x128x1_0_1_2_3 (broadcastInDim S1x1x128x1 ![2] bcast_S128_S1x1x128x1_2 keep))
        (broadcastInDim S2x32x128x1 ![0, 1, 2] bcast_S2x32x128_S2x32x128x1_0_1_2 (Host.reduceAdd e (constant S_ .f32 0x00000000#32) reducesTo_S2x32x128x128_S2x32x128_d3 h_S_))
        (broadcastInDim S2x32x128x1 ![] bcast_S_S2x32x128x1 (id (constant S_ .f32 0x3F800000#32))))))
    (broadcastInDim S2x32x128x128 ![] bcast_S_S2x32x128x128 (id (constant S_ .f32 0x00000000#32)))
/-- The context from weights and values, and the result from it. -/
def result (w : FVec Ideal S2x32x128x128 .f32) (v : FVec Ideal S2x128x32x64 .f32) (wo : FVec Ideal S2048x512 .f32) : FVec Ideal S2x128x512 .f32 :=
  Host.dotGeneral dot_S2x128x2048_S2048x512_S2x128x512_2_0_01_1_n_n none
    (shapeCast _ (transpose S2x128x32x64 [0, 3, 1, 2] (Host.dotGeneral dot_S2x128x32x64_S2x32x128x128_S2x32x64x128_1_3_3_2_02_01 none v w) transposes_S2x32x64x128_S2x128x32x64_0_3_1_2)
      shapeCasts_S2x128x32x64_S2x128x2048) wo
/-- The whole reference. -/
def whole (x : FVec Ideal S2x128x512 .f32) (wq : FVec Ideal S512x2048 .f32) (k v : FVec Ideal S2x128x32x64 .f32) (wo : FVec Ideal S2048x512 .f32) : FVec Ideal S2x128x512 .f32 :=
  result (weights (expo (scores (proj x wq) k))) v wo

set_option maxRecDepth 8192 in
/-- The generated term is this. -/
theorem res_eq (m : (ℓ : Loc nD τ sig) → Buf (Elt Ideal) ℓ) (c : Dev nD) :
    Value.res_main_v33 (F := Ideal) m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- The mask constant's reading. -/
theorem bits_neg_inf : Ideal.ofBits .f32 0xFF800000#32 = ⊥ := by simp [Ideal.ofBits, Ideal.ieee]

/-- The block of position `i` is `i / 64`. -/
theorem blk_apply (i : Fin 128) : blk (ix1 i) = BitVec.ofNat 32 (i.val / 64) := by
  unfold blk
  pointwise
  revert i
  decide +kernel
/-- The mask at an index. -/
theorem mask_apply (i j : Fin 128) : mask (ix2 i j) = BitVec.ofBool (decide (j.val / 64 ≤ i.val / 64)) := by
  have h : mask (ix2 i j) = IntOp.cmpi .sle (blk (ix1 j)) (blk (ix1 i)) := by
    pointwise [mask]
  rw [h, blk_apply, blk_apply]
  revert i j
  decide +kernel
/-- Every query sees a key: the first. -/
theorem keep_apply (i : Fin 128) : keep (ix1 i) = 1#1 := by
  have h : keep (ix1 i) = Finset.univ.fold IntOp.ori (0#1) fun j : Fin 128 => mask (ix2 i j) := by
    pointwise [keep]
  rw [h, Routing.fold_ori]
  refine ⟨⟨0, by omega⟩, Finset.mem_univ _, ?_⟩
  rw [mask_apply]; simp
/-- A projected query is a sum over the input's features. -/
theorem proj_apply (x : FVec Ideal S2x128x512 .f32) (wq : FVec Ideal S512x2048 .f32) (b : Fin 2) (i : Fin 128) (h : Fin 32) (d : Fin 64) :
    proj x wq (ix4 b i h d) = ∑ k : Fin 512, x (ix3 b i k) * wq (ix2 k ⟨h.val * 64 + d.val, by omega⟩) := by
  pointwise [proj]
/-- A score is a scaled product where the mask lets it through, and −∞ elsewhere. -/
theorem scores_apply (q k : FVec Ideal S2x128x32x64 .f32) (b : Fin 2) (h : Fin 32) (i j : Fin 128) :
    scores q k (ix4 b h i j) = if j.val / 64 ≤ i.val / 64 then (∑ d : Fin 64, q (ix4 b i h d) * k (ix4 b j h d)) * Ideal.ofBits .f32 0x3E000000#32 else ⊥ := by
  pointwise [scores]
  rw [mask_apply]
  by_cases hc : j.val / 64 ≤ i.val / 64
  · simp only [hc, decide_true, if_true]; rfl
  · simp only [hc, decide_false, if_false]; exact bits_neg_inf
/-- The exponentials at an index. -/
theorem expo_apply (s : FVec Ideal S2x32x128x128 .f32) (b : Fin 2) (h : Fin 32) (i j : Fin 128) :
    expo s (ix4 b h i j) = Ideal.exp (s (ix4 b h i j) - Finset.univ.fold max ⊥ fun j' : Fin 128 => s (ix4 b h i j')) := by
  pointwise [expo]
  rw [bits_neg_inf]
/-- The weights at an index. -/
theorem weights_apply (e : FVec Ideal S2x32x128x128 .f32) (b : Fin 2) (h : Fin 32) (i j : Fin 128) :
    weights e (ix4 b h i j) = Ideal.div (e (ix4 b h i j)) (∑ j' : Fin 128, e (ix4 b h i j')) := by
  pointwise [weights]
  rw [keep_apply]
  rfl
/-- The result at an index. -/
theorem result_apply (w : FVec Ideal S2x32x128x128 .f32) (v : FVec Ideal S2x128x32x64 .f32) (wo : FVec Ideal S2048x512 .f32) (b : Fin 2) (i : Fin 128) (e : Fin 512) :
    result w v wo (ix3 b i e) = ∑ k : Fin 2048, (∑ j : Fin 128, v (ix4 b j ⟨k.val / 64, by omega⟩ ⟨k.val % 64, by omega⟩) * w (ix4 b ⟨k.val / 64, by omega⟩ i j)) * wo (ix2 k e) := by
  pointwise [result]

end Cert.ReferenceIdeal.Math

end
-- ==== Proof.VEq.lean ====
/-
The kernel's result is the reference's, at the extended reals, when the inputs of the scores are finite.
-/
module

public import proofs.«01_k».proof.Proof.KOut
public import proofs.«01_k».proof.Proof.RMath
public import Idealize.ShloMosaic.Lib.Layout

@[expose] public section

noncomputable section

namespace Cert.Equal

open Idealize.ShloMosaic Idealize.ShloMosaic.TcCoe Cert.KernelIdeal.Math

/-- The shapes of the whole arrays. -/
abbrev TX : Shape := ⟨3, ![2, 128, 512]⟩
abbrev TQ : Shape := ⟨2, ![512, 2048]⟩
abbrev TK : Shape := ⟨4, ![2, 128, 32, 64]⟩
abbrev TO : Shape := ⟨2, ![2048, 512]⟩
abbrev TS : Shape := ⟨4, ![2, 128, 4, 64]⟩

/-- Row `i` of batch `b`, among all rows. -/
def rowOf (b : Fin 2) (i : Fin 128) : Fin 256 := ⟨b.val * 128 + i.val, by omega⟩
theorem rowOf_div (b : Fin 2) (i : Fin 128) : (rowOf b i).val / 128 = b.val := by simp only [rowOf]; omega
theorem rowOf_mod (b : Fin 2) (i : Fin 128) : (rowOf b i).val % 128 = i.val := by simp only [rowOf]; omega
theorem rowOf_inj (b : Fin 2) : Function.Injective (rowOf b) := fun i j h => by
  have := congrArg Fin.val h; simp only [rowOf] at this; exact Fin.ext (by omega)
theorem off_rowOf (b : Fin 2) (c : Fin 256) (h : c ∉ Set.range (rowOf b)) : c.val / 128 ≠ b.val := fun hc =>
  h ⟨⟨c.val % 128, by omega⟩, Fin.ext (by simp only [rowOf]; omega)⟩
theorem sees_rowOf (b : Fin 2) (i j : Fin 128) : Sees (rowOf b i) (rowOf b j) ↔ j.val / 64 ≤ i.val / 64 := by
  unfold Sees; rw [rowOf_div, rowOf_div, rowOf_mod, rowOf_mod]; simp

/-- The scale is a real. -/
theorem scale_real : Attn.IsReal (Ideal.ofBits .f32 0x3E000000#32) := by
  simp only [Ideal.ofBits, Ideal.ieee]
  rw [if_neg (by decide), if_neg (by decide)]
  exact ⟨_, rfl⟩

variable (X : FVec Ideal TX .f32) (Wq : FVec Ideal TQ .f32) (K V : FVec Ideal TK .f32) (Wo : FVec Ideal TO .f32)

/-- The projected queries of head `h` at a row. -/
def query (r : Fin 256) (h : Fin 32) (d : Fin 64) : EReal :=
  ∑ k : Fin 512, X (ix3 ⟨r.val / 128, by omega⟩ ⟨r.val % 128, by omega⟩ k) * Wq (ix2 k ⟨h.val * 64 + d.val, by omega⟩)
/-- The keys of head `h` at a row; the values likewise. -/
def key (h : Fin 32) (c : Fin 256) (d : Fin 64) : EReal := K (ix4 ⟨c.val / 128, by omega⟩ ⟨c.val % 128, by omega⟩ h d)
/-- A head's context at a row, over all 256 columns. -/
def context (r : Fin 256) (h : Fin 32) (d : Fin 64) : EReal :=
  rowMix (rowScore (query X Wq r h) (key K h) r) (fun c => key V h c d)

/-- A masked score is never +∞, and is a real where the mask lets it through. -/
theorem rowScore_real (hX : ∀ i, Attn.IsReal (X i)) (hW : ∀ i, Attn.IsReal (Wq i)) (hK : ∀ i, Attn.IsReal (K i)) (r : Fin 256) (h : Fin 32) (c : Fin 256)
    (hs : Sees r c) : Attn.IsReal (rowScore (query X Wq r h) (key K h) r c) := by
  unfold rowScore
  rw [if_pos hs]
  exact (Attn.IsReal.sum _ fun d => (Attn.IsReal.sum _ fun k => (hX _).mul (hW _)).mul (hK _)).mul scale_real
theorem rowScore_ne_top (hX : ∀ i, Attn.IsReal (X i)) (hW : ∀ i, Attn.IsReal (Wq i)) (hK : ∀ i, Attn.IsReal (K i)) (r : Fin 256) (h : Fin 32) (c : Fin 256) :
    rowScore (query X Wq r h) (key K h) r c ≠ ⊤ := by
  by_cases hs : Sees r c
  · exact (rowScore_real X Wq K hX hW hK r h c hs).ne_top
  · unfold rowScore; rw [if_neg hs]; exact bot_ne_top

/-- The score at a row and a column of one batch is the reference's. -/
theorem score_eq (b : Fin 2) (h : Fin 32) (i j : Fin 128) :
    rowScore (query X Wq (rowOf b i) h) (key K h) (rowOf b i) (rowOf b j) =
      ReferenceIdeal.Math.scores (ReferenceIdeal.Math.proj X Wq) K (ix4 b h i j) := by
  rw [ReferenceIdeal.Math.scores_apply]
  unfold rowScore
  simp only [sees_rowOf]
  refine if_congr Iff.rfl (congrArg (· * _) (Finset.sum_congr rfl fun d _ => ?_)) rfl
  rw [ReferenceIdeal.Math.proj_apply]
  unfold query key
  simp only [rowOf_div, rowOf_mod]

/-- A head's context over all columns is the reference's over the keys of the row's batch. -/
theorem context_eq (hX : ∀ i, Attn.IsReal (X i)) (hW : ∀ i, Attn.IsReal (Wq i)) (hK : ∀ i, Attn.IsReal (K i)) (b : Fin 2) (i : Fin 128) (h : Fin 32) (d : Fin 64) :
    context X Wq K V (rowOf b i) h d = ∑ j : Fin 128, V (ix4 b j h d) *
      ReferenceIdeal.Math.weights (ReferenceIdeal.Math.expo (ReferenceIdeal.Math.scores (ReferenceIdeal.Math.proj X Wq) K)) (ix4 b h i j) := by
  unfold context rowMix
  refine (Attn.row_eq (rowOf b) (rowOf_inj b) _ _ (fun c hc => ?_) (fun c => rowScore_ne_top X Wq K hX hW hK _ h c) i ?_).trans ?_
  · unfold rowScore
    exact if_neg fun hs => off_rowOf b c hc (by rw [← hs.1, rowOf_div])
  · exact (rowScore_real X Wq K hX hW hK _ h _ ((sees_rowOf b i i).2 le_rfl)).ne_bot
  · simp only [ReferenceIdeal.Math.weights_apply, ReferenceIdeal.Math.expo_apply, score_eq]
    refine Finset.sum_congr rfl fun j _ => ?_
    unfold key Attn.top
    simp only [rowOf_div, rowOf_mod]

variable (m : (ℓ : Loc KernelIdeal.nD KernelIdeal.τ KernelIdeal.sig) → Buf (Elt Ideal) ℓ) (ρ : Dev KernelIdeal.nD → PrngReg)

/-- The kernel's result on these arrays: keys and values cut by heads, the others whole on every device. -/
theorem out_eq (hX : ∀ i, Attn.IsReal (X i)) (hW : ∀ i, Attn.IsReal (Wq i)) (hK : ∀ i, Attn.IsReal (K i))
    (h0 : ∀ c : Dev KernelIdeal.nD, m ((c.tc : Thread KernelIdeal.nD KernelIdeal.τ).loc KernelIdeal.main_arg0) = X)
    (h1 : ∀ c : Dev KernelIdeal.nD, m ((c.tc : Thread KernelIdeal.nD KernelIdeal.τ).loc KernelIdeal.main_arg1) = Wq)
    (h2 : ∀ c : Dev KernelIdeal.nD, m ((c.tc : Thread KernelIdeal.nD KernelIdeal.τ).loc KernelIdeal.main_arg2) = Layout.block TS TK 2 8 c K)
    (h3 : ∀ c : Dev KernelIdeal.nD, m ((c.tc : Thread KernelIdeal.nD KernelIdeal.τ).loc KernelIdeal.main_arg3) = Layout.block TS TK 2 8 c V)
    (h4 : ∀ c : Dev KernelIdeal.nD, m ((c.tc : Thread KernelIdeal.nD KernelIdeal.τ).loc KernelIdeal.main_arg4) = Wo) :
    KernelIdeal.Run.outF (F := Ideal) m ρ = ReferenceIdeal.Math.whole X Wq K V Wo := by
  have hb : ∀ (c : Dev KernelIdeal.nD) (Y : FVec Ideal TK .f32) (b : Fin 2) (i : Fin 128) (h : Fin 4) (d : Fin 64),
      Layout.block TS TK 2 8 c Y (by decide) (ix4 b i h d) = Y (ix4 b i ⟨c.val * 4 + h.val, by have := c.isLt; simp only [KernelIdeal.nD] at this; omega⟩ d) := by
    intro c Y b i h d
    rw [Layout.block_apply]
    refine congrArg Y (funext fun a => Fin.ext ?_)
    revert a
    exact Fin.forall_fin_succ.2 ⟨rfl, Fin.forall_fin_succ.2 ⟨rfl, Fin.forall_fin_two.2 ⟨rfl, rfl⟩⟩⟩
  have hctx : ∀ (c : Dev KernelIdeal.nD) (r : Fin 256) (h : Fin 4) (d : Fin 64),
      KernelIdeal.Run.ctxF (F := Ideal) m ρ c (ix2 r ⟨64 * h.val + d.val, by omega⟩) =
        context X Wq K V r ⟨c.val * 4 + h.val, by have := c.isLt; simp only [KernelIdeal.nD] at this; omega⟩ d := by
    intro c r h d
    rw [ctxF_apply]
    unfold context
    congr 1
    · congr 1
      · funext d'
        unfold query
        rw [h0, h1]
        refine Finset.sum_congr rfl fun k _ => ?_
        refine congrArg (X _ * Wq ·) (congrArg (ix2 k ·) (Fin.ext ?_))
        simp only []
        omega
      · funext c' d'
        rw [h2]
        exact hb c K _ _ h d'
    · funext c'
      rw [h3]
      exact hb c V _ _ h d
  have hat : ∀ (b : Fin 2) (i : Fin 128) (e : Fin 512),
      KernelIdeal.Run.outF (F := Ideal) m ρ (ix3 b i e) = ReferenceIdeal.Math.whole X Wq K V Wo (ix3 b i e) := by
    intro b i e
    obtain ⟨c, hc⟩ := outF_apply m ρ b i e
    rw [hc, h4]
    unfold ReferenceIdeal.Math.whole
    rw [ReferenceIdeal.Math.result_apply]
    refine Finset.sum_congr rfl fun k _ => congrArg (· * _) ?_
    rw [← context_eq X Wq K V hX hW hK b i]
    have hk : (⟨k.val % 256, by omega⟩ : Fin 256) = ⟨64 * (⟨k.val % 256 / 64, by omega⟩ : Fin 4).val + (⟨k.val % 64, by omega⟩ : Fin 64).val, by simp only []; omega⟩ :=
      Fin.ext (by simp only []; omega)
    rw [hk, hctx]
    refine congrArg (fun h => context X Wq K V (rowOf b i) h _) (Fin.ext ?_)
    simp only []
    omega
  funext j
  have hj : j = ix3 (j 0 : Fin 2) (j 1 : Fin 128) (j 2 : Fin 512) := by
    funext a; revert a; exact Fin.forall_fin_succ.2 ⟨rfl, Fin.forall_fin_two.2 ⟨rfl, rfl⟩⟩
  rw [hj]
  exact hat _ _ _

end Cert.Equal

end
-- ==== Proof.VPre.lean ====
/-
What the precondition says: the inputs of the scores are real numbers.
-/
module

public import proofs.«01_k».proof.Pre_finite_scores_KernelIdeal
public import proofs.«01_k».proof.Proof.VAttn
public import Idealize.ShloMosaic.Lib.ReduceAll
public import Idealize.ShloMosaic.Lib.Pointwise

@[expose] public section

noncomputable section

namespace Cert.Finite

open Idealize.ShloMosaic Cert.Pre_finite_scores_KernelIdeal Cert.Pre_finite_scores_KernelIdeal.Facts

instance : Subsingleton S_.Idx := ⟨fun a b => funext fun i => i.elim0⟩

/-- Infinity's reading. -/
theorem bits_inf : Ideal.ofBits .f32 0x7F800000#32 = ⊤ := by simp [Ideal.ofBits, Ideal.ieee]

/-- An element whose absolute value compares less than infinity is a real. -/
theorem real_of_cmp {x : EReal} (h : FloatOps.cmpf (F := Ideal) (φ := .f32) .olt (FloatOps.absf (F := Ideal) (φ := .f32) x) (Ideal.ofBits .f32 0x7F800000#32) = 1#1) :
    Attn.IsReal x := by
  rw [bits_inf] at h
  refine Attn.IsReal.of_abs_lt ?_
  by_contra hc
  revert h
  simp [Ideal.cmpf_def, Ideal.absf_def, Ideal.cmp, hc]

variable [Facts]

/-- The precondition's first three arguments hold reals. -/
theorem reals (a0 : FVec Ideal S2x128x512 .f32) (a1 : FVec Ideal S512x2048 .f32) (a2 a3 : FVec Ideal S2x128x4x64 .f32) (a4 : FVec Ideal S2048x512 .f32)
    (h : fn (F := Ideal) a0 a1 a2 a3 a4 = fun _ => 1#1) :
    (∀ i, Attn.IsReal (a0 i)) ∧ (∀ i, Attn.IsReal (a1 i)) ∧ ∀ i, Attn.IsReal (a2 i) := by
  have h := congrFun h (fun a => a.elim0)
  dsimp only [fn] at h
  obtain ⟨h01, h2⟩ := IntOp.andi_eq_one.1 h
  obtain ⟨h0, h1⟩ := IntOp.andi_eq_one.1 h01
  exact ⟨fun i => real_of_cmp (Host.reduce_andi_all _ _ _ _ _ h0 i), fun i => real_of_cmp (Host.reduce_andi_all _ _ _ _ _ h1 i),
    fun i => real_of_cmp (Host.reduce_andi_all _ _ _ _ _ h2 i)⟩

end Cert.Finite

end
-- ==== Proof.lean ====
/-
The proof of the claims: every program runs to its end with its arguments unchanged and every counter at zero, the
kernel with its mask constant named is the kernel, and where the inputs of the scores are finite the kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.KEnds
public import proofs.«01_k».proof.Proof.BEnds
public import proofs.«01_k».proof.Proof.VEq
public import proofs.«01_k».proof.Proof.VPre
public import Idealize.ShloMosaic.Adequacy
public import Idealize.ShloMosaic.Init

@[expose] public section

noncomputable section

namespace Cert.Proof

open Idealize.ShloMosaic Idealize.SL.Sem

/-- The kernel as printed runs, leaves its arguments and ends with every counter at zero. -/
theorem frame_p : Cert.quiescent_Kernel (hKernel := Cert.Kernel.Gen.facts) := fun m g _ =>
  (θ_run Cert.Kernel.defs _ _).mono (fun _ h => ⟨fun c => (h.1 c).2, h.2⟩) (Cert.Kernel.Run.run_ends (F := Bits) m g)

/-- The kernel with its mask named does too. -/
theorem frame_pi : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Run.run_ends (F := Ideal) m g)

/-- So it does from a memory of the precondition. -/
theorem frame_pi_pre : Cert.quiescent_KernelIdeal_pre_finite_scores_KernelIdeal (hKernelIdeal := Cert.KernelIdeal.Gen.facts)
    (hPre_finite_scores_KernelIdeal := Cert.Pre_finite_scores_KernelIdeal.Gen.facts) := fun m g _ =>
  (θ_run Cert.KernelIdeal.defs _ _).mono (fun _ h => ⟨fun c => (h.1 c).2, h.2⟩) (Cert.KernelIdeal.Run.run_ends (F := Ideal) m g)

/-- The reference does too; it has no counter. -/
theorem frame_ri : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- So it does from a memory of the precondition. -/
theorem frame_ri_pre : Cert.quiescent_ReferenceIdeal_pre_finite_scores_ReferenceIdeal (hReferenceIdeal := Cert.ReferenceIdeal.Gen.facts)
    (hPre_finite_scores_ReferenceIdeal := Cert.Pre_finite_scores_ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- Naming the mask constant changes nothing of the kernel as printed. -/
theorem preserves : Cert.preserves_Kernel_KernelIdeal := IdealRules.named_const.statement Cert.KernelIdeal.κ "mask" .f32 0xCE6E6B28#32 ⊥ rfl

/-- A block of reals is of reals only: every element of the whole keys is in some device's block. -/
theorem keys_real (K : FVec Ideal Cert.Equal.TK .f32)
    (h : ∀ (c : Fin 8) (i), Cert.Attn.IsReal (Layout.block Cert.Equal.TS Cert.Equal.TK 2 8 c K (by decide) i)) (i : Cert.Equal.TK.Idx) :
    Cert.Attn.IsReal (K i) := by
  have h2 : (i 2).val < 32 := (i 2).isLt
  have hi := h ⟨(i 2).val / 4, by omega⟩ (ValueIdx.ix4 (i 0 : Fin 2) (i 1 : Fin 128) (⟨(i 2).val % 4, by omega⟩ : Fin 4) (i 3 : Fin 64))
  rw [Layout.block_apply] at hi
  refine (congrArg (fun j => Cert.Attn.IsReal (K j)) (funext fun a => Fin.ext ?_)).mp hi
  revert a
  refine Fin.forall_fin_succ.2 ⟨rfl, Fin.forall_fin_succ.2 ⟨rfl, Fin.forall_fin_two.2 ⟨?_, rfl⟩⟩⟩
  show (i 2).val / 4 * 4 + (i 2).val % 4 = (i 2).val
  omega

/-- The kernel's result on every device is the reference's. -/
theorem algebraic : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := Cert.Pre_finite_scores_KernelIdeal.Gen.facts) := by
  intro m g m' g' hpre hagree
  refine ⟨Cert.ReferenceIdeal.Value.res_main_v33 (F := Ideal) m' 0, ?_,
    (θ_run Cert.ReferenceIdeal.defs _ _).mono (fun _ h => h 0) (Cert.ReferenceIdeal.Value.run (F := Ideal) m' g')⟩
  refine (θ_run Cert.KernelIdeal.defs _ _).mono (fun _ h c => ⟨(h.1 c).1.trans ?_, (h.1 c).2⟩) (Cert.KernelIdeal.Run.run_ends (F := Ideal) m g)
  rw [Cert.ReferenceIdeal.Math.res_eq]
  have hfin := fun c => Cert.Finite.reals _ _ _ _ _ (hpre c)
  refine Cert.Equal.out_eq _ _ _ _ _ m g (fun i => ?_) (fun i => ?_) (keys_real _ fun c i => ?_) (fun c => (hagree c).1) (fun c => (hagree c).2.1)
    (fun c => (hagree c).2.2.1) (fun c => (hagree c).2.2.2.1) (fun c => (hagree c).2.2.2.2)
  · rw [← (hagree 0).1]; exact (hfin 0).1 i
  · rw [← (hagree 0).2.1]; exact (hfin 0).2.1 i
  · have := (hfin c).2.2 i
    rw [(hagree c).2.2.1] at this
    exact this

/-- All the claims. -/
theorem claim : Cert.Claim :=
  ⟨Cert.Kernel.Gen.facts, Cert.KernelIdeal.Gen.facts, Cert.ReferenceIdeal.Gen.facts, Cert.Pre_finite_scores_KernelIdeal.Gen.facts,
    Cert.Pre_finite_scores_ReferenceIdeal.Gen.facts, frame_p, frame_pi, frame_pi_pre, frame_ri, frame_ri_pre, preserves, algebraic⟩

end Cert.Proof

end
